-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v161)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v161) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)) (v3 : (c : Dev Cert.ProjIdeal.nD) → Buf (Elt Ideal) ((c.tc : Thread Cert.ProjIdeal.nD Cert.ProjIdeal.τ).loc Cert.ProjIdeal.main_v21_3)) (v4 : (c : Dev Cert.ProjIdeal.nD) → Buf (Elt Ideal) ((c.tc : Thread Cert.ProjIdeal.nD Cert.ProjIdeal.τ).loc Cert.ProjIdeal.main_v21_4)) (v5 : (c : Dev Cert.ProjIdeal.nD) → Buf (Elt Ideal) ((c.tc : Thread Cert.ProjIdeal.nD Cert.ProjIdeal.τ).loc Cert.ProjIdeal.main_v21_5)) (v6 : (c : Dev Cert.ProjIdeal.nD) → Buf (Elt Ideal) ((c.tc : Thread Cert.ProjIdeal.nD Cert.ProjIdeal.τ).loc Cert.ProjIdeal.main_v21_6)) (v7 : (c : Dev Cert.ProjIdeal.nD) → Buf (Elt Ideal) ((c.tc : Thread Cert.ProjIdeal.nD Cert.ProjIdeal.τ).loc Cert.ProjIdeal.main_v21_7)) (v8 : (c : Dev Cert.ProjIdeal.nD) → Buf (Elt Ideal) ((c.tc : Thread Cert.ProjIdeal.nD Cert.ProjIdeal.τ).loc Cert.ProjIdeal.main_v21_8)) (v9 : (c : Dev Cert.ProjIdeal.nD) → Buf (Elt Ideal) ((c.tc : Thread Cert.ProjIdeal.nD Cert.ProjIdeal.τ).loc Cert.ProjIdeal.main_v21_9)) (v10 : (c : Dev Cert.ProjIdeal.nD) → Buf (Elt Ideal) ((c.tc : Thread Cert.ProjIdeal.nD Cert.ProjIdeal.τ).loc Cert.ProjIdeal.main_v21_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_v21_3) = v3 c
          ∧ r.2.mem ((c.tc : Thread Cert.ProjIdeal.nD Cert.ProjIdeal.τ).loc Cert.ProjIdeal.main_v21_4) = v4 c
          ∧ r.2.mem ((c.tc : Thread Cert.ProjIdeal.nD Cert.ProjIdeal.τ).loc Cert.ProjIdeal.main_v21_5) = v5 c
          ∧ r.2.mem ((c.tc : Thread Cert.ProjIdeal.nD Cert.ProjIdeal.τ).loc Cert.ProjIdeal.main_v21_6) = v6 c
          ∧ r.2.mem ((c.tc : Thread Cert.ProjIdeal.nD Cert.ProjIdeal.τ).loc Cert.ProjIdeal.main_v21_7) = v7 c
          ∧ r.2.mem ((c.tc : Thread Cert.ProjIdeal.nD Cert.ProjIdeal.τ).loc Cert.ProjIdeal.main_v21_8) = v8 c
          ∧ r.2.mem ((c.tc : Thread Cert.ProjIdeal.nD Cert.ProjIdeal.τ).loc Cert.ProjIdeal.main_v21_9) = v9 c
          ∧ r.2.mem ((c.tc : Thread Cert.ProjIdeal.nD Cert.ProjIdeal.τ).loc Cert.ProjIdeal.main_v21_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v35) = v1 c
          ∧ r.2.mem ((c.tc : Thread Cert.ProjRefIdeal.nD Cert.ProjRefIdeal.τ).loc Cert.ProjRefIdeal.main_v37) = v2 c
          ∧ r.2.mem ((c.tc : Thread Cert.ProjRefIdeal.nD Cert.ProjRefIdeal.τ).loc Cert.ProjRefIdeal.main_v38) = v3 c
          ∧ r.2.mem ((c.tc : Thread Cert.ProjRefIdeal.nD Cert.ProjRefIdeal.τ).loc Cert.ProjRefIdeal.main_v39) = v4 c
          ∧ r.2.mem ((c.tc : Thread Cert.ProjRefIdeal.nD Cert.ProjRefIdeal.τ).loc Cert.ProjRefIdeal.main_v41) = v5 c
          ∧ r.2.mem ((c.tc : Thread Cert.ProjRefIdeal.nD Cert.ProjRefIdeal.τ).loc Cert.ProjRefIdeal.main_v43) = v6 c
          ∧ r.2.mem ((c.tc : Thread Cert.ProjRefIdeal.nD Cert.ProjRefIdeal.τ).loc Cert.ProjRefIdeal.main_v45) = v7 c
          ∧ r.2.mem ((c.tc : Thread Cert.ProjRefIdeal.nD Cert.ProjRefIdeal.τ).loc Cert.ProjRefIdeal.main_v46) = v8 c
          ∧ r.2.mem ((c.tc : Thread Cert.ProjRefIdeal.nD Cert.ProjRefIdeal.τ).loc Cert.ProjRefIdeal.main_v47) = v9 c
          ∧ r.2.mem ((c.tc : Thread Cert.ProjRefIdeal.nD Cert.ProjRefIdeal.τ).loc Cert.ProjRefIdeal.main_v48) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_finite_scores.lean ====
abbrev S16x4096x8x64 : Shape := ⟨4, ![16, 4096, 8, 64]⟩
abbrev S257x8 : Shape := ⟨2, ![257, 8]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S257x8 : S_.BroadcastsInDim S257x8 (![] : Fin 0 → Fin S257x8.rank)
  reducesTo_S257x8_S_d0_1 : S257x8.ReducesTo [0, 1] S_

variable [Facts]

def fn {F : FTy → Type} [FloatOps F] (main_arg0 : FVec F S16x4096x8x64 .f32) (main_arg1 : FVec F S16x4096x8x64 .f32) (main_arg2 : FVec F S16x4096x8x64 .f32) (main_arg3 : FVec F S257x8 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x8x64 .f32 := Host.absf main_arg1
  let main_cst_0 : FVec F S_ .f32 := constant S_ .f32 0x7F800000#32
  let main_v5 : FVec F S16x4096x8x64 .f32 := broadcastInDim S16x4096x8x64 ![] bcast_S_S16x4096x8x64 main_cst_0
  let main_v6 : IVec S16x4096x8x64 1 := cmpf .olt main_v4 main_v5
  let main_c_1 : IVec S_ 1 := constantI S_ 1 1#1
  let main_v7 : IVec S_ 1 := (fun x v => Host.reduce IntOp.andi x v reducesTo_S16x4096x8x64_S_d0_1_2_3 h_S_) main_v6 main_c_1
  let main_v8 : IVec S_ 1 := andi main_v3 main_v7
  let main_v9 : FVec F S257x8 .f32 := Host.absf main_arg3
  let main_cst_2 : FVec F S_ .f32 := constant S_ .f32 0x7F800000#32
  let main_v10 : FVec F S257x8 .f32 := broadcastInDim S257x8 ![] bcast_S_S257x8 main_cst_2
  let main_v11 : IVec S257x8 1 := cmpf .olt main_v9 main_v10
  let main_c_3 : IVec S_ 1 := constantI S_ 1 1#1
  let main_v12 : IVec S_ 1 := (fun x v => Host.reduce IntOp.andi x v reducesTo_S257x8_S_d0_1 h_S_) main_v11 main_c_3
  let main_v13 : IVec S_ 1 := andi main_v8 main_v12
  main_v13
-- ==== Attn.lean ====
abbrev S16x4096x8x64 : Shape := ⟨4, ![16, 4096, 8, 64]⟩
abbrev S257x8 : Shape := ⟨2, ![257, 8]⟩
abbrev S639 : Shape := ⟨1, ![639]⟩
abbrev S16x4096x512 : Shape := ⟨3, ![16, 4096, 512]⟩
abbrev S_ : Shape := ⟨0, ![]⟩
abbrev S16x4608x512 : Shape := ⟨3, ![16, 4608, 512]⟩
abbrev S639x1 : Shape := ⟨2, ![639, 1]⟩
abbrev S639x8 : Shape := ⟨2, ![639, 8]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S8x64x192 : Shape := ⟨3, ![8, 64, 192]⟩
abbrev S8x64x768 : Shape := ⟨3, ![8, 64, 768]⟩
abbrev S8x64x64 : Shape := ⟨3, ![8, 64, 64]⟩
abbrev S8x64x128 : Shape := ⟨3, ![8, 64, 128]⟩
abbrev S8x256x768 : Shape := ⟨3, ![8, 256, 768]⟩
abbrev S4x512x768 : Shape := ⟨3, ![4, 512, 768]⟩
abbrev S1x256x512 : Shape := ⟨3, ![1, 256, 512]⟩
abbrev S1x4608x512 : Shape := ⟨3, ![1, 4608, 512]⟩
abbrev S1x768x512 : Shape := ⟨3, ![1, 768, 512]⟩
abbrev S768x512 : Shape := ⟨2, ![768, 512]⟩
abbrev S256x512 : Shape := ⟨2, ![256, 512]⟩
abbrev S1x768 : Shape := ⟨2, ![1, 768]⟩
abbrev S256x128 : Shape := ⟨2, ![256, 128]⟩
abbrev S768x128 : Shape := ⟨2, ![768, 128]⟩
abbrev S512x128 : Shape := ⟨2, ![512, 128]⟩
abbrev S512x768 : Shape := ⟨2, ![512, 768]⟩
abbrev S1x512x768 : Shape := ⟨3, ![1, 512, 768]⟩
abbrev S512 : Shape := ⟨1, ![512]⟩
abbrev S512x1 : Shape := ⟨2, ![512, 1]⟩
abbrev S1x256x128 : Shape := ⟨3, ![1, 256, 128]⟩

abbrev nBuf : Space → Nat
  | .hbm => 180
  | .vmem => 9
  | .smem => 0
  | _ => 0

abbrev hbmTy0_0 (i : Nat) : BufTy := match i % 128 with
  | 0 => ⟨S16x4096x8x64, .f32⟩
  | 1 => ⟨S16x4096x8x64, .f32⟩
  | 2 => ⟨S16x4096x8x64, .f32⟩
  | 3 => ⟨S257x8, .f32⟩
  | 4 => ⟨S639, .i32⟩
  | 5 => ⟨S639, .i1⟩
  | 6 => ⟨S16x4096x512, .f32⟩
  | 7 => ⟨S_, .f32⟩
  | 8 => ⟨S16x4096x512, .f32⟩
  | 9 => ⟨S16x4096x512, .f32⟩
  | 10 => ⟨S16x4096x512, .bf16⟩
  | 11 => ⟨S16x4096x512, .f32⟩
  | 12 => ⟨S16x4096x512, .bf16⟩
  | 13 => ⟨S16x4096x512, .f32⟩
  | 14 => ⟨S16x4096x512, .bf16⟩
  | 15 => ⟨S_, .i32⟩
  | 16 => ⟨S_, .bf16⟩
  | 17 => ⟨S16x4608x512, .bf16⟩
  | 18 => ⟨S_, .i32⟩
  | 19 => ⟨S_, .bf16⟩
  | 20 => ⟨S16x4608x512, .bf16⟩
  | 21 => ⟨S_, .i32⟩
  | 22 => ⟨S639, .i32⟩
  | 23 => ⟨S639, .i32⟩
  | 24 => ⟨S639, .i32⟩
  | 25 => ⟨S639x1, .i32⟩
  | 26 => ⟨S639x8, .f32⟩
  | 27 => ⟨S8x639, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x576, .f32⟩
  | 73 => ⟨S8x576, .f32⟩
  | 74 => ⟨S8x576, .f32⟩
  | 75 => ⟨S8x576, .f32⟩
  | 76 => ⟨S8x576, .f32⟩
  | 77 => ⟨S8x576, .f32⟩
  | 78 => ⟨S8x576, .f32⟩
  | 79 => ⟨S8x576, .f32⟩
  | 80 => ⟨S8x576, .f32⟩
  | 81 => ⟨S8x576, .f32⟩
  | 82 => ⟨S8x576, .f32⟩
  | 83 => ⟨S8x576, .f32⟩
  | 84 => ⟨S8x576, .f32⟩
  | 85 => ⟨S8x576, .f32⟩
  | 86 => ⟨S8x576, .f32⟩
  | 87 => ⟨S8x576, .f32⟩
  | 88 => ⟨S8x576, .f32⟩
  | 89 => ⟨S8x576, .f32⟩
  | 90 => ⟨S8x576, .f32⟩
  | 91 => ⟨S8x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S16x4096x8x64, .f32⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x1x576, .f32⟩
  | 9 => ⟨S8x1x576, .f32⟩
  | 10 => ⟨S8x1x576, .f32⟩
  | 11 => ⟨S8x1x576, .f32⟩
  | 12 => ⟨S8x1x576, .f32⟩
  | 13 => ⟨S8x1x576, .f32⟩
  | 14 => ⟨S8x1x576, .f32⟩
  | 15 => ⟨S8x1x576, .f32⟩
  | 16 => ⟨S8x1x576, .f32⟩
  | 17 => ⟨S8x1x576, .f32⟩
  | 18 => ⟨S8x1x576, .f32⟩
  | 19 => ⟨S8x1x576, .f32⟩
  | 20 => ⟨S8x1x576, .f32⟩
  | 21 => ⟨S8x1x576, .f32⟩
  | 22 => ⟨S8x1x576, .f32⟩
  | 23 => ⟨S8x1x576, .f32⟩
  | 24 => ⟨S8x1x576, .f32⟩
  | 25 => ⟨S8x1x576, .f32⟩
  | 26 => ⟨S8x1x576, .f32⟩
  | 27 => ⟨S8x1x576, .f32⟩
  | 28 => ⟨S8x16x576, .f32⟩
  | 29 => ⟨S8x16x576, .f32⟩
  | 30 => ⟨S8x16x576, .f32⟩
  | 31 => ⟨S8x16x576, .f32⟩
  | 32 => ⟨S8x64x576, .f32⟩
  | 33 => ⟨S_, .f32⟩
  | 34 => ⟨S8x64x192, .f32⟩
  | 35 => ⟨S8x64x768, .f32⟩
  | 36 => ⟨S_, .f32⟩
  | 37 => ⟨S8x64x64, .f32⟩
  | 38 => ⟨S_, .f32⟩
  | 39 => ⟨S8x64x128, .f32⟩
  | 40 => ⟨S8x64x768, .f32⟩
  | 41 => ⟨S_, .f32⟩
  | 42 => ⟨S8x64x128, .f32⟩
  | 43 => ⟨S_, .f32⟩
  | 44 => ⟨S8x64x64, .f32⟩
  | 45 => ⟨S8x64x768, .f32⟩
  | 46 => ⟨S_, .f32⟩
  | 47 => ⟨S8x64x192, .f32⟩
  | 48 => ⟨S8x64x768, .f32⟩
  | 49 => ⟨S8x256x768, .f32⟩
  | 50 => ⟨S4x512x768, .f32⟩
  | 51 => ⟨S16x4096x512, .bf16⟩
  | _ => ⟨S16x4096x8x64, .f32⟩

abbrev hbmTy (i : Nat) : BufTy := match i / 128 with
  | 0 => hbmTy0_0 i
  | 1 => hbmTy0_1 i
  | _ => ⟨S16x4096x8x64, .f32⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x4608x512, .bf16⟩
  | .local _ .vmem, ⟨3, _⟩ => ⟨S1x4608x512, .bf16⟩
  | .local _ .vmem, ⟨4, _⟩ => ⟨S1x4608x512, .bf16⟩
  | .local _ .vmem, ⟨5, _⟩ => ⟨S1x4608x512, .bf16⟩
  | .local _ .vmem, ⟨6, _⟩ => ⟨S4x512x768, .f32⟩
  | .local _ .vmem, ⟨7, _⟩ => ⟨S1x256x512, .bf16⟩
  | .local _ .vmem, ⟨8, _⟩ => ⟨S1x256x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_cst_4 : Ref sig .tc := ⟨.hbm, 161, rfl⟩
abbrev main_v149 : Ref sig .tc := ⟨.hbm, 162, rfl⟩
abbrev main_v150 : Ref sig .tc := ⟨.hbm, 163, rfl⟩
abbrev main_cst_5 : Ref sig .tc := ⟨.hbm, 164, rfl⟩
abbrev main_v151 : Ref sig .tc := ⟨.hbm, 165, rfl⟩
abbrev main_cst_6 : Ref sig .tc := ⟨.hbm, 166, rfl⟩
abbrev main_v152 : Ref sig .tc := ⟨.hbm, 167, rfl⟩
abbrev main_v153 : Ref sig .tc := ⟨.hbm, 168, rfl⟩
abbrev main_cst_7 : Ref sig .tc := ⟨.hbm, 169, rfl⟩
abbrev main_v154 : Ref sig .tc := ⟨.hbm, 170, rfl⟩
abbrev main_cst_8 : Ref sig .tc := ⟨.hbm, 171, rfl⟩
abbrev main_v155 : Ref sig .tc := ⟨.hbm, 172, rfl⟩
abbrev main_v156 : Ref sig .tc := ⟨.hbm, 173, rfl⟩
abbrev main_cst_9 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16x4096x8x64 : Shape := ⟨4, ![16, 4096, 8, 64]⟩
abbrev S257x8 : Shape := ⟨2, ![257, 8]⟩
abbrev S_ : Shape := ⟨0, ![]⟩
abbrev S16x4608x8x64 : Shape := ⟨4, ![16, 4608, 8, 64]⟩
abbrev S16x64x64x8x64 : Shape := ⟨5, ![16, 64, 64, 8, 64]⟩
abbrev S64x16x64x8x64 : Shape := ⟨5, ![64, 16, 64, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S64x4 : Shape := ⟨2, ![64, 4]⟩
abbrev S64x16x576x8x64 : Shape := ⟨5, ![64, 16, 576, 8, 64]⟩
abbrev S64x16x8x64x576 : Shape := ⟨5, ![64, 16, 8, 64, 576]⟩
abbrev S1x8x64x576 : Shape := ⟨4, ![1, 8, 64, 576]⟩
abbrev S1x1x8x64x576 : Shape := ⟨5, ![1, 1, 8, 64, 576]⟩
abbrev S16x8x64x576 : Shape := ⟨4, ![16, 8, 64, 576]⟩
abbrev S64x16x8x64 : Shape := ⟨4, ![64, 16, 8, 64]⟩
abbrev S64x16x8x64x1 : Shape := ⟨5, ![64, 16, 8, 64, 1]⟩
abbrev S64x16x8x64x64 : Shape := ⟨5, ![64, 16, 8, 64, 64]⟩
abbrev S16x4096x512 : Shape := ⟨3, ![16, 4096, 512]⟩

abbrev nBuf : Space → Nat
  | .hbm => 121
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x64, .f32⟩
  | .hbm, ⟨2, _⟩ => ⟨S16x4096x8x64, .f32⟩
  | .hbm, ⟨3, _⟩ => ⟨S257x8, .f32⟩
  | .hbm, ⟨4, _⟩ => ⟨S_, .i32⟩
  | .hbm, ⟨5, _⟩ => ⟨S_, .f32⟩
  | .hbm, ⟨6, _⟩ => ⟨S16x4608x8x64, .f32⟩
  | .hbm, ⟨7, _⟩ => ⟨S_, .i32⟩
  | .hbm, ⟨8, _⟩ => ⟨S_, .f32⟩
  | .hbm, ⟨9, _⟩ => ⟨S16x4608x8x64, .f32⟩
  | .hbm, ⟨10, _⟩ => ⟨S16x64x64x8x64, .f32⟩
  | .hbm, ⟨11, _⟩ => ⟨S64x16x64x8x64, .f32⟩
  | .hbm, ⟨12, _⟩ => ⟨S64, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S576, .i32⟩
  | .hbm, ⟨18, _⟩ => ⟨S1x576, .i32⟩
  | .hbm, ⟨19, _⟩ => ⟨S64x576, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i1⟩
  | .hbm, ⟨36, _⟩ => ⟨S_, .i32⟩
  | .hbm, ⟨37, _⟩ => ⟨S64x576, .i32⟩
  | .hbm, ⟨38, _⟩ => ⟨S64x576, .i32⟩
  | .hbm, ⟨39, _⟩ => ⟨S64x576, .i32⟩
  | .hbm, ⟨40, _⟩ => ⟨S64x576x1, .i32⟩
  | .hbm, ⟨41, _⟩ => ⟨S64x576x8, .f32⟩
  | .hbm, ⟨42, _⟩ => ⟨S8x64x576, .f32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S_, .i32⟩
  | .hbm, ⟨55, _⟩ => ⟨S64x1, .i32⟩
  | .hbm, ⟨56, _⟩ => ⟨S64x1, .i32⟩
  | .hbm, ⟨57, _⟩ => ⟨S_, .i32⟩
  | .hbm, ⟨58, _⟩ => ⟨S64x1, .i32⟩
  | .hbm, ⟨59, _⟩ => ⟨S_, .i32⟩
  | .hbm, ⟨60, _⟩ => ⟨S64x1, .i32⟩
  | .hbm, ⟨61, _⟩ => ⟨S64x4, .i32⟩
  | .hbm, ⟨62, _⟩ => ⟨S64x16x576x8x64, .f32⟩
  | .hbm, ⟨63, _⟩ => ⟨S_, .i32⟩
  | .hbm, ⟨64, _⟩ => ⟨S64, .i32⟩
  | .hbm, ⟨65, _⟩ => ⟨S64, .i1⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S_, .i32⟩
  | .hbm, ⟨71, _⟩ => ⟨S64x1, .i32⟩
  | .hbm, ⟨72, _⟩ => ⟨S64x1, .i32⟩
  | .hbm, ⟨73, _⟩ => ⟨S_, .i32⟩
  | .hbm, ⟨74, _⟩ => ⟨S64x1, .i32⟩
  | .hbm, ⟨75, _⟩ => ⟨S_, .i32⟩
  | .hbm, ⟨76, _⟩ => ⟨S64x1, .i32⟩
  | .hbm, ⟨77, _⟩ => ⟨S64x4, .i32⟩
  | .hbm, ⟨78, _⟩ => ⟨S64x16x576x8x64, .f32⟩
  | .hbm, ⟨79, _⟩ => ⟨S576, .i32⟩
  | .hbm, ⟨80, _⟩ => ⟨S1x576, .i32⟩
  | .hbm, ⟨81, _⟩ => ⟨S64x1, .i32⟩
  | .hbm, ⟨82, _⟩ => ⟨S64x576, .i32⟩
  | .hbm, ⟨83, _⟩ => ⟨S64x576, .i32⟩
  | .hbm, ⟨84, _⟩ => ⟨S64x576, .i32⟩
  | .hbm, ⟨85, _⟩ => ⟨S_, .i32⟩
  | .hbm, ⟨86, _⟩ => ⟨S64x576, .i32⟩
  | .hbm, ⟨87, _⟩ => ⟨S64x576, .i1⟩
  | .hbm, ⟨88, _⟩ => ⟨S64x16x8x64x576, .f32⟩
  | .hbm, ⟨89, _⟩ => ⟨S_, .f32⟩
  | .hbm, ⟨90, _⟩ => ⟨S64x16x8x64x576, .f32⟩
  | .hbm, ⟨91, _⟩ => ⟨S64x16x8x64x576, .f32⟩
  | .hbm, ⟨92, _⟩ => ⟨S1x8x64x576, .f32⟩
  | .hbm, ⟨93, _⟩ => ⟨S1x1x8x64x576, .f32⟩
  | .hbm, ⟨94, _⟩ => ⟨S64x16x8x64x576, .f32⟩
  | .hbm, ⟨95, _⟩ => ⟨S64x16x8x64x576, .f32⟩
  | .hbm, ⟨96, _⟩ => ⟨S_, .f32⟩
  | .hbm, ⟨97, _⟩ => ⟨S_, .f32⟩
  | .hbm, ⟨98, _⟩ => ⟨S64x16x8x64x576, .i1⟩
  | .hbm, ⟨99, _⟩ => ⟨S16x8x64x576, .f32⟩
  | .hbm, ⟨100, _⟩ => ⟨S64x16x8x64x576, .f32⟩
  | .hbm, ⟨101, _⟩ => ⟨S64x16x8x64x576, .f32⟩
  | .hbm, ⟨102, _⟩ => ⟨S_, .f32⟩
  | .hbm, ⟨103, _⟩ => ⟨S64x16x8x64, .f32⟩
  | .hbm, ⟨104, _⟩ => ⟨S_, .f32⟩
  | .hbm, ⟨105, _⟩ => ⟨S64x16x8x64, .f32⟩
  | .hbm, ⟨106, _⟩ => ⟨S64x16x8x64, .f32⟩
  | .hbm, ⟨107, _⟩ => ⟨S64x16x8x64x1, .f32⟩
  | .hbm, ⟨108, _⟩ => ⟨S64x16x8x64x576, .f32⟩
  | .hbm, ⟨109, _⟩ => ⟨S64x16x8x64x576, .f32⟩
  | .hbm, ⟨110, _⟩ => ⟨S64x16x8x64x576, .f32⟩
  | .hbm, ⟨111, _⟩ => ⟨S_, .f32⟩
  | .hbm, ⟨112, _⟩ => ⟨S64x16x8x64, .f32⟩
  | .hbm, ⟨113, _⟩ => ⟨S64x16x8x64x1, .f32⟩
  | .hbm, ⟨114, _⟩ => ⟨S64x16x8x64x576, .f32⟩
  | .hbm, ⟨115, _⟩ => ⟨S64x16x8x64x576, .f32⟩
  | .hbm, ⟨116, _⟩ => ⟨S64x16x8x64x64, .f32⟩
  | .hbm, ⟨117, _⟩ => ⟨S64x16x64x8x64, .f32⟩
  | .hbm, ⟨118, _⟩ => ⟨S16x64x64x8x64, .f32⟩
  | .hbm, ⟨119, _⟩ => ⟨S16x4096x512, .f32⟩
  | .hbm, ⟨120, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_c_11 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_13 : Ref sig .tc := ⟨.hbm, 63, rfl⟩
abbrev main_v38 : Ref sig .tc := ⟨.hbm, 64, rfl⟩
abbrev main_v39 : Ref sig .tc := ⟨.hbm, 65, rfl⟩
abbrev main_c_14 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_15 : Ref sig .tc := ⟨.hbm, 70, rfl⟩
abbrev main_v43 : Ref sig .tc := ⟨.hbm, 71, rfl⟩
abbrev main_v44 : Ref sig .tc := ⟨.hbm, 72, rfl⟩
abbrev main_c_16 : Ref sig .tc := ⟨.hbm, 73, rfl⟩
abbrev main_v45 : Ref sig .tc := ⟨.hbm, 74, rfl⟩
abbrev main_c_17 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_18 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_19 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_v64 : Ref sig .tc := ⟨.hbm, 101, rfl⟩
abbrev main_cst_20 : Ref sig .tc := ⟨.hbm, 102, rfl⟩
abbrev main_v65 : Ref sig .tc := ⟨.hbm, 103, rfl⟩
abbrev main_cst_21 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_22 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x5640 : Shape := ⟨2, ![1024, 5640]⟩
abbrev S5640 : Shape := ⟨1, ![5640]⟩
abbrev S4 : Shape := ⟨1, ![4]⟩
abbrev S1024x3584 : Shape := ⟨2, ![1024, 3584]⟩
abbrev S1024x2048 : Shape := ⟨2, ![1024, 2048]⟩
abbrev S1024x5632 : Shape := ⟨2, ![1024, 5632]⟩
abbrev S3584 : Shape := ⟨1, ![3584]⟩
abbrev S2048 : Shape := ⟨1, ![2048]⟩
abbrev S5632 : Shape := ⟨1, ![5632]⟩
abbrev S1x5632 : Shape := ⟨2, ![1, 5632]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S65536x1024 : Shape := ⟨2, ![65536, 1024]⟩
abbrev S1x1024 : Shape := ⟨2, ![1, 1024]⟩
abbrev S65536x512 : Shape := ⟨2, ![65536, 512]⟩
abbrev S65536x128 : Shape := ⟨2, ![65536, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1x512 : Shape := ⟨2, ![1, 512]⟩
abbrev S1024x1024 : Shape := ⟨2, ![1024, 1024]⟩

abbrev nBuf : Space → Nat
  | .hbm => 44
  | .vmem => 33
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5640, .f32⟩
  | .hbm, ⟨3, _⟩ => ⟨S5640, .f32⟩
  | .hbm, ⟨4, _⟩ => ⟨S4, .f32⟩
  | .hbm, ⟨5, _⟩ => ⟨S1024x3584, .f32⟩
  | .hbm, ⟨6, _⟩ => ⟨S1024x2048, .f32⟩
  | .hbm, ⟨7, _⟩ => ⟨S1024x5632, .f32⟩
  | .hbm, ⟨8, _⟩ => ⟨S1024x5632, .bf16⟩
  | .hbm, ⟨9, _⟩ => ⟨S3584, .f32⟩
  | .hbm, ⟨10, _⟩ => ⟨S2048, .f32⟩
  | .hbm, ⟨11, _⟩ => ⟨S5632, .f32⟩
  | .hbm, ⟨12, _⟩ => ⟨S1x5632, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S65536x1024, .f32⟩
  | .hbm, ⟨31, _⟩ => ⟨S1x1024, .f32⟩
  | .hbm, ⟨32, _⟩ => ⟨S65536x512, .bf16⟩
  | .hbm, ⟨33, _⟩ => ⟨S65536x512, .bf16⟩
  | .hbm, ⟨34, _⟩ => ⟨S65536x512, .bf16⟩
  | .hbm, ⟨35, _⟩ => ⟨S65536x512, .f32⟩
  | .hbm, ⟨36, _⟩ => ⟨S65536x512, .f32⟩
  | .hbm, ⟨37, _⟩ => ⟨S65536x512, .bf16⟩
  | .hbm, ⟨38, _⟩ => ⟨S65536x512, .bf16⟩
  | .hbm, ⟨39, _⟩ => ⟨S65536x512, .bf16⟩
  | .hbm, ⟨40, _⟩ => ⟨S65536x512, .f32⟩
  | .hbm, ⟨41, _⟩ => ⟨S65536x1024, .f32⟩
  | .hbm, ⟨42, _⟩ => ⟨S65536x1024, .f32⟩
  | .hbm, ⟨43, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1x5632, .f32⟩
  | .local _ .vmem, ⟨5, _⟩ => ⟨S1024x128, .bf16⟩
  | .local _ .vmem, ⟨6, _⟩ => ⟨S1024x128, .bf16⟩
  | .local _ .vmem, ⟨7, _⟩ => ⟨S1x128, .f32⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .f32⟩
  | .local _ .vmem, ⟨26, _⟩ => ⟨S256x512, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x128, .f32⟩
  | .local _ .vmem, ⟨32, _⟩ => ⟨S256x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev main_v21_7 : Ref sig .tc := ⟨.hbm, 39, rfl⟩
abbrev main_v21_8 : Ref sig .tc := ⟨.hbm, 40, rfl⟩
abbrev main_v21_9 : Ref sig .tc := ⟨.hbm, 41, rfl⟩
abbrev main_v21_10 : Ref sig .tc := ⟨.hbm, 42, rfl⟩
abbrev main_v21_11 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S16x4096x1024 : Shape := ⟨3, ![16, 4096, 1024]⟩
abbrev S1024 : Shape := ⟨1, ![1024]⟩
abbrev S1024x5640 : Shape := ⟨2, ![1024, 5640]⟩
abbrev S5640 : Shape := ⟨1, ![5640]⟩
abbrev S4 : Shape := ⟨1, ![4]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5640 : Shape := ⟨3, ![16, 4096, 5640]⟩
abbrev S1x1x5640 : Shape := ⟨3, ![1, 1, 5640]⟩
abbrev S16x4096x512 : Shape := ⟨3, ![16, 4096, 512]⟩
abbrev S16x4096x4 : Shape := ⟨3, ![16, 4096, 4]⟩
abbrev S65536x512 : Shape := ⟨2, ![65536, 512]⟩
abbrev S65536x1024 : Shape := ⟨2, ![65536, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5640, .f32⟩
  | .hbm, ⟨3, _⟩ => ⟨S5640, .f32⟩
  | .hbm, ⟨4, _⟩ => ⟨S4, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x5640, .f32⟩
  | .hbm, ⟨22, _⟩ => ⟨S1x1x5640, .f32⟩
  | .hbm, ⟨23, _⟩ => ⟨S16x4096x5640, .f32⟩
  | .hbm, ⟨24, _⟩ => ⟨S16x4096x5640, .f32⟩
  | .hbm, ⟨25, _⟩ => ⟨S16x4096x512, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x512, .f32⟩
  | .hbm, ⟨31, _⟩ => ⟨S16x4096x512, .f32⟩
  | .hbm, ⟨32, _⟩ => ⟨S16x4096x4, .f32⟩
  | .hbm, ⟨33, _⟩ => ⟨S16x4096x4, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S_, .f32⟩
  | .hbm, ⟨40, _⟩ => ⟨S16x4096x512, .f32⟩
  | .hbm, ⟨41, _⟩ => ⟨S16x4096x512, .f32⟩
  | .hbm, ⟨42, _⟩ => ⟨S65536x512, .f32⟩
  | .hbm, ⟨43, _⟩ => ⟨S65536x512, .bf16⟩
  | .hbm, ⟨44, _⟩ => ⟨S65536x512, .f32⟩
  | .hbm, ⟨45, _⟩ => ⟨S65536x512, .bf16⟩
  | .hbm, ⟨46, _⟩ => ⟨S65536x512, .f32⟩
  | .hbm, ⟨47, _⟩ => ⟨S65536x512, .bf16⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .bf16⟩
  | .hbm, ⟨52, _⟩ => ⟨S65536x512, .f32⟩
  | .hbm, ⟨53, _⟩ => ⟨S65536x512, .bf16⟩
  | .hbm, ⟨54, _⟩ => ⟨S65536x512, .f32⟩
  | .hbm, ⟨55, _⟩ => ⟨S65536x512, .bf16⟩
  | .hbm, ⟨56, _⟩ => ⟨S65536x512, .f32⟩
  | .hbm, ⟨57, _⟩ => ⟨S65536x1024, .f32⟩
  | .hbm, ⟨58, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 13
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x1024, .f32⟩
  | .hbm, ⟨5, _⟩ => ⟨S65536x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x1024, .f32⟩
  | .hbm, ⟨5, _⟩ => ⟨S65536x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.AttnMath.lean ====
/-
  The arithmetic of one row of the attention, over the extended reals.

  `banded` is the law that the kernel rests on: a softmax over 768 columns whose scores outside a band of 576 are
  `-∞` is the softmax over the band, and the division by the row's sum may be done before or after the product
  with the values.
-/
module

public import Idealize.ShloMosaic.PureOps.Ideal
public import Idealize.ShloMosaic.Lib.Pointwise

@[expose] public section

noncomputable section

namespace Cert.AttnMath

open Idealize.ShloMosaic

theorem exp_bot : Ideal.exp ⊥ = 0 := rfl

theorem exp_nonneg (x : EReal) : 0 ≤ Ideal.exp x := by
  induction x using EReal.rec with
  | bot => exact le_refl _
  | top => exact le_top
  | coe r => exact EReal.coe_nonneg.mpr (Real.exp_pos r).le

/-- A factor that is nonnegative and not `∞` goes into a sum from the right. -/
theorem sum_mul_right {ι : Type} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top h0 ht, ih]

/-- The greatest of a row of scores, `-∞` where there is none. -/
abbrev top {n : ℕ} (s : Fin n → EReal) : EReal := Finset.fold max ⊥ s Finset.univ

theorem le_top_of {n : ℕ} (s : Fin n → EReal) (i : Fin n) : s i ≤ top s :=
  Finset.le_fold_max (s i) |>.mpr (Or.inr ⟨i, Finset.mem_univ i, le_refl _⟩)

theorem top_le {n : ℕ} (s : Fin n → EReal) (x : EReal) (h : ∀ i, s i ≤ x) : top s ≤ x :=
  Finset.fold_max_le x |>.mpr ⟨bot_le, fun i _ => h i⟩

theorem exists_top {n : ℕ} (s : Fin n → EReal) (h : top s ≠ ⊥) : ∃ i, s i = top s := by
  rcases (Finset.le_fold_max (top s)).mp (le_refl (top s)) with hb | ⟨i, -, hi⟩
  · exact absurd (le_bot_iff.mp hb) h
  · exact ⟨i, le_antisymm (le_top_of s i) hi⟩

/-- The softmax of the scores `s`, times the values `v`, the row's sum divided out last. -/
abbrev late {n : ℕ} (s v : Fin n → EReal) : EReal :=
  Ideal.div (∑ i, Ideal.exp (s i - top s) * v i) (∑ i, Ideal.exp (s i - top s))

/-- The softmax of the scores `s`, times the values `v`, each weight divided by the row's sum first. -/
abbrev soft {n : ℕ} (s v : Fin n → EReal) : EReal :=
  ∑ i, v i * Ideal.div (Ideal.exp (s i - top s)) (∑ i, Ideal.exp (s i - top s))

theorem banded (s v : Fin 576 → EReal) (s' v' : Fin 768 → EReal) (o : ℕ) (ho : o + 576 ≤ 768)
    (hs : ∀ k : Fin 576, s' ⟨o + k.val, by omega⟩ = s k) (hv : ∀ k : Fin 576, v' ⟨o + k.val, by omega⟩ = v k)
    (hout : ∀ r : Fin 768, ¬(o ≤ r.val ∧ r.val < o + 576) → s' r = ⊥) (hfin : ∀ k, s k ≠ ⊤) (hex : ∃ k, s k ≠ ⊥) :
    late s' v' = soft s v := by
  have emb : Function.Injective (fun k : Fin 576 => (⟨o + k.val, by omega⟩ : Fin 768)) := fun a b h => by
    have := congrArg Fin.val h
    exact Fin.ext (by simpa using this)
  have outside : ∀ r : Fin 768, r ∉ Set.range (fun k : Fin 576 => (⟨o + k.val, by omega⟩ : Fin 768)) → s' r = ⊥ :=
    fun r hr => hout r fun h => hr ⟨⟨r.val - o, by omega⟩, Fin.ext (by show o + (r.val - o) = r.val; omega)⟩
  have hM : top s' = top s := by
    refine le_antisymm (top_le _ _ fun r => ?_) (top_le _ _ fun k => (hs k) ▸ le_top_of s' _)
    by_cases h : o ≤ r.val ∧ r.val < o + 576
    · have e : r = ⟨o + (⟨r.val - o, by omega⟩ : Fin 576).val, by show o + (r.val - o) < 768; omega⟩ :=
        Fin.ext (by show r.val = o + (r.val - o); omega)
      rw [e, hs]
      exact le_top_of s _
    · rw [hout r h]
      exact bot_le
  have hden : (∑ i, Ideal.exp (s i - top s)) = ∑ i, Ideal.exp (s' i - top s') := by
    rw [hM]
    refine Fintype.sum_of_injective _ emb _ _ (fun r hr => ?_) (fun k => by rw [hs])
    rw [outside r hr, EReal.bot_sub, exp_bot]
  have hnum : (∑ i, Ideal.exp (s i - top s) * v i) = ∑ i, Ideal.exp (s' i - top s') * v' i := by
    rw [hM]
    refine Fintype.sum_of_injective _ emb _ _ (fun r hr => ?_) (fun k => by rw [hs, hv])
    rw [outside r hr, EReal.bot_sub, exp_bot, zero_mul]
  obtain ⟨k₀, hk₀⟩ := hex
  have hbot : top s ≠ ⊥ := fun h => hk₀ (le_bot_iff.mp (h ▸ le_top_of s k₀))
  obtain ⟨j, hj⟩ := exists_top s hbot
  have htop : top s ≠ ⊤ := hj ▸ hfin j
  have hD0 : 0 ≤ ∑ i, Ideal.exp (s i - top s) := Finset.sum_nonneg fun i _ => exp_nonneg _
  have hD : (∑ i, Ideal.exp (s i - top s)) ≠ 0 := by
    have h1 : Ideal.exp (s j - top s) ≤ ∑ i, Ideal.exp (s i - top s) :=
      Finset.single_le_sum (f := fun i => Ideal.exp (s i - top s)) (fun i _ => exp_nonneg _) (Finset.mem_univ j)
    rw [hj, EReal.sub_self htop hbot] at h1
    have h2 : Ideal.exp 0 = 1 := by
      show ((Real.exp 0 : ℝ) : EReal) = 1
      rw [Real.exp_zero, EReal.coe_one]
    rw [h2] at h1
    exact (lt_of_lt_of_le zero_lt_one h1).ne'
  unfold late soft
  rw [← hden, ← hnum]
  simp only [Ideal.div, if_neg hD]
  rw [sum_mul_right _ _ _ (EReal.inv_nonneg_of_nonneg hD0) (EReal.inv_lt_top _).ne]
  exact Finset.sum_congr rfl fun i _ => by rw [mul_comm (Ideal.exp _) (v i), mul_assoc]

/-- A sum over 128 lanes whose second half is zero. -/
theorem sum_first (f : Fin 64 → EReal) (g : Fin 128 → EReal) (h0 : ∀ d : Fin 64, g ⟨d.val, by omega⟩ = f d)
    (h1 : ∀ d : Fin 128, 64 ≤ d.val → g d = 0) : ∑ d, g d = ∑ d, f d :=
  (Fintype.sum_of_injective (fun d : Fin 64 => (⟨d.val, by omega⟩ : Fin 128))
    (fun a b h => Fin.ext (by simpa using congrArg Fin.val h)) f g
    (fun d hd => h1 d (by
      by_contra h
      exact hd ⟨⟨d.val, by omega⟩, rfl⟩)) (fun d => (h0 d).symm)).symm

/-- A sum over 128 lanes whose first half is zero. -/
theorem sum_second (f : Fin 64 → EReal) (g : Fin 128 → EReal) (h0 : ∀ d : Fin 64, g ⟨64 + d.val, by omega⟩ = f d)
    (h1 : ∀ d : Fin 128, d.val < 64 → g d = 0) : ∑ d, g d = ∑ d, f d :=
  (Fintype.sum_of_injective (fun d : Fin 64 => (⟨64 + d.val, by omega⟩ : Fin 128))
    (fun a b h => Fin.ext (by simpa using congrArg Fin.val h)) f g
    (fun d hd => h1 d (by
      by_contra h
      exact hd ⟨⟨d.val - 64, by omega⟩, Fin.ext (by show 64 + (d.val - 64) = d.val; omega)⟩)) (fun d => (h0 d).symm)).symm

/-- The scale of the scores, one eighth. -/
abbrev scale : EReal := Ideal.ofBits .f32 0x3E000000#32

theorem scale_eq : scale = (((1 : ℝ) / 8 : ℝ) : EReal) := by
  simp [scale, Ideal.ofBits, Ideal.ieee]
  rw [← EReal.coe_mul]
  norm_num

theorem scale_nonneg : 0 ≤ scale := by
  rw [scale_eq]
  exact EReal.coe_nonneg.mpr (by norm_num)

theorem scale_ne_top : scale ≠ ⊤ := by
  rw [scale_eq]
  exact EReal.coe_ne_top _

theorem mask_eq : Ideal.ofBits .f32 0xFF800000#32 = (⊥ : EReal) := by
  simp [Ideal.ofBits, Ideal.ieee]

end Cert.AttnMath

end
-- ==== Proof.AttnScores.lean ====
module
public import proofs.«01_k».proof.Proof.AttnMath

@[expose] public section

/-! The attention scores of the two programs, and why they give the same weighted sums. -/

noncomputable section
namespace Cert.AttnMath
open Idealize.ShloMosaic

/-- An array with 512 rows of zeros in front of its 4096 rows. -/
def lead (x : Fin 16 → Fin 4096 → Fin 8 → Fin 64 → EReal) (b : Fin 16) (n : Fin 4608) (h : Fin 8)
    (d : Fin 64) : EReal :=
  if hn : 512 ≤ n.val then x b ⟨n.val - 512, by omega⟩ h d else 0

theorem lead_pos (x : Fin 16 → Fin 4096 → Fin 8 → Fin 64 → EReal) (b : Fin 16) (n : Fin 4608) (h : Fin 8)
    (d : Fin 64) (hn : 512 ≤ n.val) : lead x b n h d = x b ⟨n.val - 512, by omega⟩ h d := dif_pos hn

theorem lead_neg (x : Fin 16 → Fin 4096 → Fin 8 → Fin 64 → EReal) (b : Fin 16) (n : Fin 4608) (h : Fin 8)
    (d : Fin 64) (hn : ¬512 ≤ n.val) : lead x b n h d = 0 := dif_neg hn

/-- The bias of 256 query rows over 768 columns: each run of 64 rows sees the 576 columns that begin at its own
    first row, the others are −∞. -/
def shifted (e : Fin 8 → Fin 64 → Fin 576 → EReal) (h : Fin 8) (l : Fin 256) (r : Fin 768) : EReal :=
  if hr : 64 * (l.val / 64) ≤ r.val ∧ r.val < 64 * (l.val / 64) + 576 then
    e h ⟨l.val % 64, by omega⟩ ⟨r.val - 64 * (l.val / 64), by omega⟩
  else ⊥

theorem two {n k : ℕ} (f : Fin n → Fin k → EReal) {a a' b b' : ℕ} (ha : a = a') (hb : b = b') (h1 : a < n)
    (h2 : b < k) : f ⟨a, h1⟩ ⟨b, h2⟩ = f ⟨a', ha ▸ h1⟩ ⟨b', hb ▸ h2⟩ := by
  subst ha hb; rfl

/-- Four copies of a block under each other, each 64 columns further to the right, by cases on the copy. -/
theorem four_bands (f : Fin 64 → Fin 576 → EReal) (l : Fin 256) (j : Fin 768) :
    (if h : l.val < 64 then
      if h1 : j.val < 576 then f ⟨l.val, h⟩ ⟨j.val, h1⟩ else ⊥
    else if h : l.val - 64 < 64 then
      if h0 : j.val < 64 then ⊥
      else if h1 : j.val - 64 < 576 then f ⟨l.val - 64, h⟩ ⟨j.val - 64, h1⟩ else ⊥
    else if h : l.val - 64 - 64 < 64 then
      if h0 : j.val < 128 then ⊥
      else if h1 : j.val - 128 < 576 then f ⟨l.val - 64 - 64, h⟩ ⟨j.val - 128, h1⟩ else ⊥
    else
      if h0 : j.val < 192 then ⊥
      else f ⟨l.val - 64 - 64 - 64, by omega⟩ ⟨j.val - 192, by omega⟩) =
    if hr : 64 * (l.val / 64) ≤ j.val ∧ j.val < 64 * (l.val / 64) + 576 then
      f ⟨l.val % 64, by omega⟩ ⟨j.val - 64 * (l.val / 64), by omega⟩
    else ⊥ := by
  split_ifs <;> first | rfl | (exfalso; omega) | exact two f (by omega) (by omega) _ _

/-- One score of the blocked program: block `g` of 256 query rows, its row `l`, against column `r` of the 768
    columns that end with the block's own rows. -/
def score (q k : Fin 16 → Fin 4096 → Fin 8 → Fin 64 → EReal) (e : Fin 8 → Fin 64 → Fin 576 → EReal)
    (b g : Fin 16) (h : Fin 8) (l : Fin 256) (r : Fin 768) : EReal :=
  if 512 ≤ 256 * g.val + r.val then
    (∑ d : Fin 64, q b ⟨256 * g.val + l.val, by omega⟩ h d * scale *
      lead k b ⟨256 * g.val + r.val, by omega⟩ h d) + shifted e h l r
  else ⊥

/-- One score of the plain program: chunk `c` of 64 query rows, its row `l`, against column `j` of the 576
    columns that end with the chunk's own rows. -/
def plain (q k : Fin 16 → Fin 4096 → Fin 8 → Fin 64 → EReal) (e : Fin 8 → Fin 64 → Fin 576 → EReal)
    (c : Fin 64) (b : Fin 16) (h : Fin 8) (l : Fin 64) (j : Fin 576) : EReal :=
  if 512 ≤ 64 * c.val + j.val then
    (∑ d : Fin 64, q b ⟨c.val * 64 + l.val, by omega⟩ h d *
      lead k b ⟨64 * c.val + j.val, by omega⟩ h d) * scale + e h l j
  else ⊥

theorem shifted_in (e : Fin 8 → Fin 64 → Fin 576 → EReal) (h : Fin 8) (l : Fin 256) (j : Fin 576)
    (r : Fin 768) (hr : r.val = 64 * (l.val / 64) + j.val) :
    shifted e h l r = e h ⟨l.val % 64, by omega⟩ j := by
  have hb : 64 * (l.val / 64) ≤ r.val ∧ r.val < 64 * (l.val / 64) + 576 := by omega
  rw [shifted, dif_pos hb]
  exact congrArg (e h _) (Fin.ext (by simp only; omega))

theorem shifted_out (e : Fin 8 → Fin 64 → Fin 576 → EReal) (h : Fin 8) (l : Fin 256) (r : Fin 768)
    (hr : ¬(64 * (l.val / 64) ≤ r.val ∧ r.val < 64 * (l.val / 64) + 576)) : shifted e h l r = ⊥ := dif_neg hr

theorem score_out (q k : Fin 16 → Fin 4096 → Fin 8 → Fin 64 → EReal) (e : Fin 8 → Fin 64 → Fin 576 → EReal)
    (b g : Fin 16) (h : Fin 8) (l : Fin 256) (r : Fin 768)
    (hr : ¬(64 * (l.val / 64) ≤ r.val ∧ r.val < 64 * (l.val / 64) + 576)) : score q k e b g h l r = ⊥ := by
  rw [score, shifted_out e h l r hr, EReal.add_bot, ite_self]

theorem score_in (q k : Fin 16 → Fin 4096 → Fin 8 → Fin 64 → EReal) (e : Fin 8 → Fin 64 → Fin 576 → EReal)
    (b : Fin 16) (s : Fin 4096) (h : Fin 8) (j : Fin 576) (r : Fin 768)
    (hr : r.val = 64 * (s.val % 256 / 64) + j.val) :
    score q k e b ⟨s.val / 256, by omega⟩ h ⟨s.val % 256, by omega⟩ r =
      plain q k e ⟨s.val / 64, by omega⟩ b h ⟨s.val % 64, by omega⟩ j := by
  have hs : 256 * (s.val / 256) + s.val % 256 = s.val / 64 * 64 + s.val % 64 := by omega
  have hn : 256 * (s.val / 256) + r.val = 64 * (s.val / 64) + j.val := by omega
  have hl : s.val % 256 % 64 = s.val % 64 := by omega
  simp only [score, plain, hn, hs]
  rw [shifted_in e h ⟨s.val % 256, by omega⟩ j r hr, sum_mul_right _ _ _ scale_nonneg scale_ne_top]
  simp only [hl]
  exact if_congr Iff.rfl (congrArg (· + _) (Finset.sum_congr rfl fun d _ => mul_right_comm _ _ _)) rfl

/-- A value is a real number. -/
abbrev IsReal (x : EReal) : Prop := x ≠ ⊥ ∧ x ≠ ⊤

theorem real_of (x : EReal) (h : IsReal x) : ∃ y : ℝ, (y : EReal) = x := ⟨x.toReal, EReal.coe_toReal h.2 h.1⟩

theorem real_mul {x y : EReal} (hx : IsReal x) (hy : IsReal y) : IsReal (x * y) := by
  obtain ⟨a, rfl⟩ := real_of x hx
  obtain ⟨b, rfl⟩ := real_of y hy
  rw [← EReal.coe_mul]
  exact ⟨EReal.coe_ne_bot _, EReal.coe_ne_top _⟩

theorem real_add {x y : EReal} (hx : IsReal x) (hy : IsReal y) : IsReal (x + y) := by
  obtain ⟨a, rfl⟩ := real_of x hx
  obtain ⟨b, rfl⟩ := real_of y hy
  rw [← EReal.coe_add]
  exact ⟨EReal.coe_ne_bot _, EReal.coe_ne_top _⟩

theorem real_zero : IsReal 0 := ⟨EReal.coe_ne_bot 0, EReal.coe_ne_top 0⟩

theorem real_sum {n : ℕ} (f : Fin n → EReal) (hf : ∀ i, IsReal (f i)) : IsReal (∑ i, f i) :=
  Finset.sum_induction f IsReal (fun _ _ => real_add) real_zero fun i _ => hf i

theorem real_lead {x : Fin 16 → Fin 4096 → Fin 8 → Fin 64 → EReal} (hx : ∀ b s h d, IsReal (x b s h d))
    (b : Fin 16) (n : Fin 4608) (h : Fin 8) (d : Fin 64) : IsReal (lead x b n h d) := by
  by_cases hn : 512 ≤ n.val
  · rw [lead_pos x b n h d hn]; exact hx _ _ _ _
  · rw [lead_neg x b n h d hn]; exact real_zero

theorem real_scale : IsReal scale := by
  refine ⟨fun h => ?_, scale_ne_top⟩
  have := scale_nonneg
  rw [h] at this
  exact absurd this (not_le.2 EReal.bot_lt_zero)

/-- One entry of the blocked program's result. -/
def blocked (q k v : Fin 16 → Fin 4096 → Fin 8 → Fin 64 → EReal) (e : Fin 8 → Fin 64 → Fin 576 → EReal)
    (b : Fin 16) (s : Fin 4096) (h : Fin 8) (d : Fin 64) : EReal :=
  late (score q k e b ⟨s.val / 256, by omega⟩ h ⟨s.val % 256, by omega⟩)
    fun r => lead v b ⟨256 * (s.val / 256) + r.val, by omega⟩ h d

/-- The blocked program gives the plain program's weighted sum, where queries, keys and bias are real numbers. -/
theorem blocked_eq (q k v : Fin 16 → Fin 4096 → Fin 8 → Fin 64 → EReal) (e : Fin 8 → Fin 64 → Fin 576 → EReal)
    (hq : ∀ b s h d, IsReal (q b s h d)) (hk : ∀ b s h d, IsReal (k b s h d)) (he : ∀ h l j, IsReal (e h l j))
    (b : Fin 16) (s : Fin 4096) (h : Fin 8) (d : Fin 64) :
    blocked q k v e b s h d =
      soft (plain q k e ⟨s.val / 64, by omega⟩ b h ⟨s.val % 64, by omega⟩)
        fun j => lead v b ⟨64 * (s.val / 64) + j.val, by omega⟩ h d := by
  have hreal : ∀ j : Fin 576, IsReal ((∑ x : Fin 64, q b ⟨s.val / 64 * 64 + s.val % 64, by omega⟩ h x *
      lead k b ⟨64 * (s.val / 64) + j.val, by omega⟩ h x) * scale + e h ⟨s.val % 64, by omega⟩ j) := fun j =>
    real_add (real_mul (real_sum _ fun x => real_mul (hq _ _ _ _) (real_lead hk _ _ _ _)) real_scale) (he _ _ _)
  refine banded _ _ _ _ (64 * (s.val % 256 / 64)) (by omega) (fun j => score_in q k e b s h j _ rfl)
    (fun j => ?_) (fun r hr => score_out q k e b _ h _ r hr) (fun j => ?_) ⟨⟨575, by omega⟩, ?_⟩
  · exact congrArg (fun n => lead v b n h d) (Fin.ext (by simp only; omega))
  · rw [plain]
    split_ifs
    · exact (hreal j).2
    · exact bot_ne_top
  · rw [plain, if_pos (by simp only; omega)]
    exact (hreal _).1

end Cert.AttnMath
end
-- ==== Proof.AttnBias.lean ====
/-
  The relative-position bias that the attention kernel's host code lays out: every entry of it is an entry of the table.
-/
module

public import proofs.«01_k».proof.Proof.Gen.AttnIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-- The host operations up to the row of distances, those that cut the bias from the row, and those that lay out its bands. -/
abbrev rowOps : List (HloOp τ sig (Elt Ideal)) :=
  hostOps0 ++ (hostOps0_1 ++ (hostOps0_2 ++ (hostOps0_3 ++ hostOps0_4.take 7)))
abbrev pieceOps : List (HloOp τ sig (Elt Ideal)) := (hostOps0_4.drop 7).take 128
abbrev stackOps : List (HloOp τ sig (Elt Ideal)) := (hostOps0_4.drop 135).take 5
abbrev bandOps : List (HloOp τ sig (Elt Ideal)) := hostOps0_4.drop 140

set_option maxHeartbeats 4000000 in
/-- The host operations are these three stretches. -/
theorem host_split : (List.flatten [hostOps0, hostOps0_1, hostOps0_2, hostOps0_3, hostOps0_4] : List (HloOp τ sig (Elt Ideal))) =
    rowOps ++ (pieceOps ++ (stackOps ++ bandOps)) := rfl

/-- Sixteen single rows under each other, read at an index. -/
theorem sixteen_at (f0 f1 f2 f3 f4 f5 f6 f7 f8 f9 f10 f11 f12 f13 f14 f15 : FVec Ideal S8x1x576 .f32)
    (hc : Shape.Concatenates [S8x1x576, S8x1x576, S8x1x576, S8x1x576, S8x1x576, S8x1x576, S8x1x576, S8x1x576, S8x1x576, S8x1x576, S8x1x576, S8x1x576, S8x1x576, S8x1x576, S8x1x576, S8x1x576] S8x16x576 1)
    (h : Fin 8) (l : Fin 16) (j : Fin 576) :
    concatenate S8x16x576 1 [⟨S8x1x576, f0⟩, ⟨S8x1x576, f1⟩, ⟨S8x1x576, f2⟩, ⟨S8x1x576, f3⟩, ⟨S8x1x576, f4⟩, ⟨S8x1x576, f5⟩, ⟨S8x1x576, f6⟩, ⟨S8x1x576, f7⟩, ⟨S8x1x576, f8⟩, ⟨S8x1x576, f9⟩, ⟨S8x1x576, f10⟩, ⟨S8x1x576, f11⟩, ⟨S8x1x576, f12⟩, ⟨S8x1x576, f13⟩, ⟨S8x1x576, f14⟩, ⟨S8x1x576, f15⟩] hc (ix3 h l j) =
      (![f0, f1, f2, f3, f4, f5, f6, f7, f8, f9, f10, f11, f12, f13, f14, f15] l) (ix3 h (0 : Fin 1) j) := by
  fin_cases l <;> pointwise

/-- Four times sixteen rows under each other, read at an index. -/
theorem four_at (g0 g1 g2 g3 : FVec Ideal S8x16x576 .f32)
    (hc : Shape.Concatenates [S8x16x576, S8x16x576, S8x16x576, S8x16x576] S8x64x576 1)
    (h : Fin 8) (a : Fin 4) (b : Fin 16) (j : Fin 576) :
    concatenate S8x64x576 1 [⟨S8x16x576, g0⟩, ⟨S8x16x576, g1⟩, ⟨S8x16x576, g2⟩, ⟨S8x16x576, g3⟩] hc
        (ix3 h (⟨16 * a.val + b.val, by omega⟩ : Fin 64) j) =
      (![g0, g1, g2, g3] a) (ix3 h b j) := by
  fin_cases a
  · pointwise
  · pointwise
  · pointwise
    rw [dif_neg (by omega), dif_neg (by omega), dif_pos (by omega)]
    exact congrArg g2 (congrArg (fun z => ix3 h z j) (Fin.ext (show 32 + b.val - 16 - 16 = b.val by omega)))
  · pointwise
    rw [dif_neg (by omega), dif_neg (by omega), dif_neg (by omega)]
    exact congrArg g3 (congrArg (fun z => ix3 h z j) (Fin.ext (show 48 + b.val - 16 - 16 - 16 = b.val by omega)))

/-- One row of the bias: the row of distances from an offset on. -/
theorem slice_at (x : FVec Ideal S8x639 .f32) (o : ℕ) (ho : o < 64) (hs : S8x639.Slices ![0, o] S8x576)
    (h : Fin 8) (j : Fin 576) :
    broadcastInDim S8x1x576 ![0, 2] bcast_S8x576_S8x1x576_0_2 (extractStridedSlice S8x576 ![0, o] x hs) (ix3 h (0 : Fin 1) j) =
      x (ix2 h (⟨o + j.val, by omega⟩ : Fin 639)) := by
  pointwise

/-- Sixteen single rows under each other. -/
def sixteen (f : Fin 16 → FVec Ideal S8x1x576 .f32) : FVec Ideal S8x16x576 .f32 :=
  concatenate S8x16x576 1 [⟨S8x1x576, f 0⟩, ⟨S8x1x576, f 1⟩, ⟨S8x1x576, f 2⟩, ⟨S8x1x576, f 3⟩, ⟨S8x1x576, f 4⟩, ⟨S8x1x576, f 5⟩, ⟨S8x1x576, f 6⟩, ⟨S8x1x576, f 7⟩, ⟨S8x1x576, f 8⟩, ⟨S8x1x576, f 9⟩, ⟨S8x1x576, f 10⟩, ⟨S8x1x576, f 11⟩, ⟨S8x1x576, f 12⟩, ⟨S8x1x576, f 13⟩, ⟨S8x1x576, f 14⟩, ⟨S8x1x576, f 15⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

set_option maxHeartbeats 4000000 in
/-- The bias as its single rows. -/
theorem stack_eq (U : Valuation τ sig (Elt Ideal)) :
    (StableHlo.after stackOps U main_v148 : FVec Ideal S8x64x576 .f32) =
      concatenate S8x64x576 1 [⟨S8x16x576, sixteen ![U main_v80, U main_v81, U main_v82, U main_v83, U main_v84, U main_v85, U main_v86, U main_v87, U main_v88, U main_v89, U main_v90, U main_v91, U main_v92, U main_v93, U main_v94, U main_v95]⟩, ⟨S8x16x576, sixteen ![U main_v96, U main_v97, U main_v98, U main_v99, U main_v100, U main_v101, U main_v102, U main_v103, U main_v104, U main_v105, U main_v106, U main_v107, U main_v108, U main_v109, U main_v110, U main_v111]⟩,
        ⟨S8x16x576, sixteen ![U main_v112, U main_v113, U main_v114, U main_v115, U main_v116, U main_v117, U main_v118, U main_v119, U main_v120, U main_v121, U main_v122, U main_v123, U main_v124, U main_v125, U main_v126, U main_v127]⟩, ⟨S8x16x576, sixteen ![U main_v128, U main_v129, U main_v130, U main_v131, U main_v132, U main_v133, U main_v134, U main_v135, U main_v136, U main_v137, U main_v138, U main_v139, U main_v140, U main_v141, U main_v142, U main_v143]⟩]
        concatenates_S8x16x576_S8x16x576_S8x16x576_S8x16x576_S8x64x576_d1 := rfl

/-- The bias at an index is a single row at an index. -/
theorem stack_at (U : Valuation τ sig (Elt Ideal)) (h : Fin 8) (a : Fin 4) (b : Fin 16) (j : Fin 576) :
    (StableHlo.after stackOps U main_v148 (ix3 h (⟨16 * a.val + b.val, by omega⟩ : Fin 64) j) : EReal) =
      ((![![U main_v80, U main_v81, U main_v82, U main_v83, U main_v84, U main_v85, U main_v86, U main_v87, U main_v88, U main_v89, U main_v90, U main_v91, U main_v92, U main_v93, U main_v94, U main_v95], ![U main_v96, U main_v97, U main_v98, U main_v99, U main_v100, U main_v101, U main_v102, U main_v103, U main_v104, U main_v105, U main_v106, U main_v107, U main_v108, U main_v109, U main_v110, U main_v111], ![U main_v112, U main_v113, U main_v114, U main_v115, U main_v116, U main_v117, U main_v118, U main_v119, U main_v120, U main_v121, U main_v122, U main_v123, U main_v124, U main_v125, U main_v126, U main_v127], ![U main_v128, U main_v129, U main_v130, U main_v131, U main_v132, U main_v133, U main_v134, U main_v135, U main_v136, U main_v137, U main_v138, U main_v139, U main_v140, U main_v141, U main_v142, U main_v143]] a : Fin 16 → FVec Ideal S8x1x576 .f32) b) (ix3 h (0 : Fin 1) j) := by
  rw [stack_eq]
  refine (four_at _ _ _ _ _ h a b j).trans ?_
  fin_cases a
  · exact sixteen_at _ _ _ _ _ _ _ _ _ _ _ _ _ _ _ _ concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 h b j
  · exact sixteen_at _ _ _ _ _ _ _ _ _ _ _ _ _ _ _ _ concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 h b j
  · exact sixteen_at _ _ _ _ _ _ _ _ _ _ _ _ _ _ _ _ concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 h b j
  · exact sixteen_at _ _ _ _ _ _ _ _ _ _ _ _ _ _ _ _ concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 h b j

set_option maxHeartbeats 40000000 in
set_option maxRecDepth 100000 in
/-- The bias of query 0 of a chunk. -/
theorem piece_0 (U : Valuation τ sig (Elt Ideal)) (h : Fin 8) (j : Fin 576) :
    (StableHlo.after pieceOps U main_v80 (ix3 h (0 : Fin 1) j) : EReal) = U main_v15 (ix2 h (⟨63 + j.val, by omega⟩ : Fin 639)) := by
  simp only [pieceOps, hostOps0_4, List.drop_succ_cons, List.drop_zero, List.take_succ_cons, List.take_zero]
  entry_read
  exact slice_at _ 63 (by omega) _ h j

set_option maxHeartbeats 40000000 in
set_option maxRecDepth 100000 in
/-- The bias of query 1 of a chunk. -/
theorem piece_1 (U : Valuation τ sig (Elt Ideal)) (h : Fin 8) (j : Fin 576) :
    (StableHlo.after pieceOps U main_v81 (ix3 h (0 : Fin 1) j) : EReal) = U main_v15 (ix2 h (⟨62 + j.val, by omega⟩ : Fin 639)) := by
  simp only [pieceOps, hostOps0_4, List.drop_succ_cons, List.drop_zero, List.take_succ_cons, List.take_zero]
  entry_read
  exact slice_at _ 62 (by omega) _ h j

set_option maxHeartbeats 40000000 in
set_option maxRecDepth 100000 in
/-- The bias of query 2 of a chunk. -/
theorem piece_2 (U : Valuation τ sig (Elt Ideal)) (h : Fin 8) (j : Fin 576) :
    (StableHlo.after pieceOps U main_v82 (ix3 h (0 : Fin 1) j) : EReal) = U main_v15 (ix2 h (⟨61 + j.val, by omega⟩ : Fin 639)) := by
  simp only [pieceOps, hostOps0_4, List.drop_succ_cons, List.drop_zero, List.take_succ_cons, List.take_zero]
  entry_read
  exact slice_at _ 61 (by omega) _ h j

set_option maxHeartbeats 40000000 in
set_option maxRecDepth 100000 in
/-- The bias of query 3 of a chunk. -/
theorem piece_3 (U : Valuation τ sig (Elt Ideal)) (h : Fin 8) (j : Fin 576) :
    (StableHlo.after pieceOps U main_v83 (ix3 h (0 : Fin 1) j) : EReal) = U main_v15 (ix2 h (⟨60 + j.val, by omega⟩ : Fin 639)) := by
  simp only [pieceOps, hostOps0_4, List.drop_succ_cons, List.drop_zero, List.take_succ_cons, List.take_zero]
  entry_read
  exact slice_at _ 60 (by omega) _ h j

set_option maxHeartbeats 40000000 in
set_option maxRecDepth 100000 in
/-- The bias of query 4 of a chunk. -/
theorem piece_4 (U : Valuation τ sig (Elt Ideal)) (h : Fin 8) (j : Fin 576) :
    (StableHlo.after pieceOps U main_v84 (ix3 h (0 : Fin 1) j) : EReal) = U main_v15 (ix2 h (⟨59 + j.val, by omega⟩ : Fin 639)) := by
  simp only [pieceOps, hostOps0_4, List.drop_succ_cons, List.drop_zero, List.take_succ_cons, List.take_zero]
  entry_read
  exact slice_at _ 59 (by omega) _ h j

set_option maxHeartbeats 40000000 in
set_option maxRecDepth 100000 in
/-- The bias of query 5 of a chunk. -/
theorem piece_5 (U : Valuation τ sig (Elt Ideal)) (h : Fin 8) (j : Fin 576) :
    (StableHlo.after pieceOps U main_v85 (ix3 h (0 : Fin 1) j) : EReal) = U main_v15 (ix2 h (⟨58 + j.val, by omega⟩ : Fin 639)) := by
  simp only [pieceOps, hostOps0_4, List.drop_succ_cons, List.drop_zero, List.take_succ_cons, List.take_zero]
  entry_read
  exact slice_at _ 58 (by omega) _ h j

set_option maxHeartbeats 40000000 in
set_option maxRecDepth 100000 in
/-- The bias of query 6 of a chunk. -/
theorem piece_6 (U : Valuation τ sig (Elt Ideal)) (h : Fin 8) (j : Fin 576) :
    (StableHlo.after pieceOps U main_v86 (ix3 h (0 : Fin 1) j) : EReal) = U main_v15 (ix2 h (⟨57 + j.val, by omega⟩ : Fin 639)) := by
  simp only [pieceOps, hostOps0_4, List.drop_succ_cons, List.drop_zero, List.take_succ_cons, List.take_zero]
  entry_read
  exact slice_at _ 57 (by omega) _ h j

set_option maxHeartbeats 40000000 in
set_option maxRecDepth 100000 in
/-- The bias of query 7 of a chunk. -/
theorem piece_7 (U : Valuation τ sig (Elt Ideal)) (h : Fin 8) (j : Fin 576) :
    (StableHlo.after pieceOps U main_v87 (ix3 h (0 : Fin 1) j) : EReal) = U main_v15 (ix2 h (⟨56 + j.val, by omega⟩ : Fin 639)) := by
  simp only [pieceOps, hostOps0_4, List.drop_succ_cons, List.drop_zero, List.take_succ_cons, List.take_zero]
  entry_read
  exact slice_at _ 56 (by omega) _ h j

set_option maxHeartbeats 40000000 in
set_option maxRecDepth 100000 in
/-- The bias of query 8 of a chunk. -/
theorem piece_8 (U : Valuation τ sig (Elt Ideal)) (h : Fin 8) (j : Fin 576) :
    (StableHlo.after pieceOps U main_v88 (ix3 h (0 : Fin 1) j) : EReal) = U main_v15 (ix2 h (⟨55 + j.val, by omega⟩ : Fin 639)) := by
  simp only [pieceOps, hostOps0_4, List.drop_succ_cons, List.drop_zero, List.take_succ_cons, List.take_zero]
  entry_read
  exact slice_at _ 55 (by omega) _ h j

set_option maxHeartbeats 40000000 in
set_option maxRecDepth 100000 in
/-- The bias of query 9 of a chunk. -/
theorem piece_9 (U : Valuation τ sig (Elt Ideal)) (h : Fin 8) (j : Fin 576) :
    (StableHlo.after pieceOps U main_v89 (ix3 h (0 : Fin 1) j) : EReal) = U main_v15 (ix2 h (⟨54 + j.val, by omega⟩ : Fin 639)) := by
  simp only [pieceOps, hostOps0_4, List.drop_succ_cons, List.drop_zero, List.take_succ_cons, List.take_zero]
  entry_read
  exact slice_at _ 54 (by omega) _ h j

set_option maxHeartbeats 40000000 in
set_option maxRecDepth 100000 in
/-- The bias of query 10 of a chunk. -/
theorem piece_10 (U : Valuation τ sig (Elt Ideal)) (h : Fin 8) (j : Fin 576) :
    (StableHlo.after pieceOps U main_v90 (ix3 h (0 : Fin 1) j) : EReal) = U main_v15 (ix2 h (⟨53 + j.val, by omega⟩ : Fin 639)) := by
  simp only [pieceOps, hostOps0_4, List.drop_succ_cons, List.drop_zero, List.take_succ_cons, List.take_zero]
  entry_read
  exact slice_at _ 53 (by omega) _ h j

set_option maxHeartbeats 40000000 in
set_option maxRecDepth 100000 in
/-- The bias of query 11 of a chunk. -/
theorem piece_11 (U : Valuation τ sig (Elt Ideal)) (h : Fin 8) (j : Fin 576) :
    (StableHlo.after pieceOps U main_v91 (ix3 h (0 : Fin 1) j) : EReal) = U main_v15 (ix2 h (⟨52 + j.val, by omega⟩ : Fin 639)) := by
  simp only [pieceOps, hostOps0_4, List.drop_succ_cons, List.drop_zero, List.take_succ_cons, List.take_zero]
  entry_read
  exact slice_at _ 52 (by omega) _ h j

set_option maxHeartbeats 40000000 in
set_option maxRecDepth 100000 in
/-- The bias of query 12 of a chunk. -/
theorem piece_12 (U : Valuation τ sig (Elt Ideal)) (h : Fin 8) (j : Fin 576) :
    (StableHlo.after pieceOps U main_v92 (ix3 h (0 : Fin 1) j) : EReal) = U main_v15 (ix2 h (⟨51 + j.val, by omega⟩ : Fin 639)) := by
  simp only [pieceOps, hostOps0_4, List.drop_succ_cons, List.drop_zero, List.take_succ_cons, List.take_zero]
  entry_read
  exact slice_at _ 51 (by omega) _ h j

set_option maxHeartbeats 40000000 in
set_option maxRecDepth 100000 in
/-- The bias of query 13 of a chunk. -/
theorem piece_13 (U : Valuation τ sig (Elt Ideal)) (h : Fin 8) (j : Fin 576) :
    (StableHlo.after pieceOps U main_v93 (ix3 h (0 : Fin 1) j) : EReal) = U main_v15 (ix2 h (⟨50 + j.val, by omega⟩ : Fin 639)) := by
  simp only [pieceOps, hostOps0_4, List.drop_succ_cons, List.drop_zero, List.take_succ_cons, List.take_zero]
  entry_read
  exact slice_at _ 50 (by omega) _ h j

set_option maxHeartbeats 40000000 in
set_option maxRecDepth 100000 in
/-- The bias of query 14 of a chunk. -/
theorem piece_14 (U : Valuation τ sig (Elt Ideal)) (h : Fin 8) (j : Fin 576) :
    (StableHlo.after pieceOps U main_v94 (ix3 h (0 : Fin 1) j) : EReal) = U main_v15 (ix2 h (⟨49 + j.val, by omega⟩ : Fin 639)) := by
  simp only [pieceOps, hostOps0_4, List.drop_succ_cons, List.drop_zero, List.take_succ_cons, List.take_zero]
  entry_read
  exact slice_at _ 49 (by omega) _ h j

set_option maxHeartbeats 40000000 in
set_option maxRecDepth 100000 in
/-- The bias of query 15 of a chunk. -/
theorem piece_15 (U : Valuation τ sig (Elt Ideal)) (h : Fin 8) (j : Fin 576) :
    (StableHlo.after pieceOps U main_v95 (ix3 h (0 : Fin 1) j) : EReal) = U main_v15 (ix2 h (⟨48 + j.val, by omega⟩ : Fin 639)) := by
  simp only [pieceOps, hostOps0_4, List.drop_succ_cons, List.drop_zero, List.take_succ_cons, List.take_zero]
  entry_read
  exact slice_at _ 48 (by omega) _ h j

set_option maxHeartbeats 40000000 in
set_option maxRecDepth 100000 in
/-- The bias of query 16 of a chunk. -/
theorem piece_16 (U : Valuation τ sig (Elt Ideal)) (h : Fin 8) (j : Fin 576) :
    (StableHlo.after pieceOps U main_v96 (ix3 h (0 : Fin 1) j) : EReal) = U main_v15 (ix2 h (⟨47 + j.val, by omega⟩ : Fin 639)) := by
  simp only [pieceOps, hostOps0_4, List.drop_succ_cons, List.drop_zero, List.take_succ_cons, List.take_zero]
  entry_read
  exact slice_at _ 47 (by omega) _ h j

set_option maxHeartbeats 40000000 in
set_option maxRecDepth 100000 in
/-- The bias of query 17 of a chunk. -/
theorem piece_17 (U : Valuation τ sig (Elt Ideal)) (h : Fin 8) (j : Fin 576) :
    (StableHlo.after pieceOps U main_v97 (ix3 h (0 : Fin 1) j) : EReal) = U main_v15 (ix2 h (⟨46 + j.val, by omega⟩ : Fin 639)) := by
  simp only [pieceOps, hostOps0_4, List.drop_succ_cons, List.drop_zero, List.take_succ_cons, List.take_zero]
  entry_read
  exact slice_at _ 46 (by omega) _ h j

set_option maxHeartbeats 40000000 in
set_option maxRecDepth 100000 in
/-- The bias of query 18 of a chunk. -/
theorem piece_18 (U : Valuation τ sig (Elt Ideal)) (h : Fin 8) (j : Fin 576) :
    (StableHlo.after pieceOps U main_v98 (ix3 h (0 : Fin 1) j) : EReal) = U main_v15 (ix2 h (⟨45 + j.val, by omega⟩ : Fin 639)) := by
  simp only [pieceOps, hostOps0_4, List.drop_succ_cons, List.drop_zero, List.take_succ_cons, List.take_zero]
  entry_read
  exact slice_at _ 45 (by omega) _ h j

set_option maxHeartbeats 40000000 in
set_option maxRecDepth 100000 in
/-- The bias of query 19 of a chunk. -/
theorem piece_19 (U : Valuation τ sig (Elt Ideal)) (h : Fin 8) (j : Fin 576) :
    (StableHlo.after pieceOps U main_v99 (ix3 h (0 : Fin 1) j) : EReal) = U main_v15 (ix2 h (⟨44 + j.val, by omega⟩ : Fin 639)) := by
  simp only [pieceOps, hostOps0_4, List.drop_succ_cons, List.drop_zero, List.take_succ_cons, List.take_zero]
  entry_read
  exact slice_at _ 44 (by omega) _ h j

set_option maxHeartbeats 40000000 in
set_option maxRecDepth 100000 in
/-- The bias of query 20 of a chunk. -/
theorem piece_20 (U : Valuation τ sig (Elt Ideal)) (h : Fin 8) (j : Fin 576) :
    (StableHlo.after pieceOps U main_v100 (ix3 h (0 : Fin 1) j) : EReal) = U main_v15 (ix2 h (⟨43 + j.val, by omega⟩ : Fin 639)) := by
  simp only [pieceOps, hostOps0_4, List.drop_succ_cons, List.drop_zero, List.take_succ_cons, List.take_zero]
  entry_read
  exact slice_at _ 43 (by omega) _ h j

set_option maxHeartbeats 40000000 in
set_option maxRecDepth 100000 in
/-- The bias of query 21 of a chunk. -/
theorem piece_21 (U : Valuation τ sig (Elt Ideal)) (h : Fin 8) (j : Fin 576) :
    (StableHlo.after pieceOps U main_v101 (ix3 h (0 : Fin 1) j) : EReal) = U main_v15 (ix2 h (⟨42 + j.val, by omega⟩ : Fin 639)) := by
  simp only [pieceOps, hostOps0_4, List.drop_succ_cons, List.drop_zero, List.take_succ_cons, List.take_zero]
  entry_read
  exact slice_at _ 42 (by omega) _ h j

set_option maxHeartbeats 40000000 in
set_option maxRecDepth 100000 in
/-- The bias of query 22 of a chunk. -/
theorem piece_22 (U : Valuation τ sig (Elt Ideal)) (h : Fin 8) (j : Fin 576) :
    (StableHlo.after pieceOps U main_v102 (ix3 h (0 : Fin 1) j) : EReal) = U main_v15 (ix2 h (⟨41 + j.val, by omega⟩ : Fin 639)) := by
  simp only [pieceOps, hostOps0_4, List.drop_succ_cons, List.drop_zero, List.take_succ_cons, List.take_zero]
  entry_read
  exact slice_at _ 41 (by omega) _ h j

set_option maxHeartbeats 40000000 in
set_option maxRecDepth 100000 in
/-- The bias of query 23 of a chunk. -/
theorem piece_23 (U : Valuation τ sig (Elt Ideal)) (h : Fin 8) (j : Fin 576) :
    (StableHlo.after pieceOps U main_v103 (ix3 h (0 : Fin 1) j) : EReal) = U main_v15 (ix2 h (⟨40 + j.val, by omega⟩ : Fin 639)) := by
  simp only [pieceOps, hostOps0_4, List.drop_succ_cons, List.drop_zero, List.take_succ_cons, List.take_zero]
  entry_read
  exact slice_at _ 40 (by omega) _ h j

set_option maxHeartbeats 40000000 in
set_option maxRecDepth 100000 in
/-- The bias of query 24 of a chunk. -/
theorem piece_24 (U : Valuation τ sig (Elt Ideal)) (h : Fin 8) (j : Fin 576) :
    (StableHlo.after pieceOps U main_v104 (ix3 h (0 : Fin 1) j) : EReal) = U main_v15 (ix2 h (⟨39 + j.val, by omega⟩ : Fin 639)) := by
  simp only [pieceOps, hostOps0_4, List.drop_succ_cons, List.drop_zero, List.take_succ_cons, List.take_zero]
  entry_read
  exact slice_at _ 39 (by omega) _ h j

set_option maxHeartbeats 40000000 in
set_option maxRecDepth 100000 in
/-- The bias of query 25 of a chunk. -/
theorem piece_25 (U : Valuation τ sig (Elt Ideal)) (h : Fin 8) (j : Fin 576) :
    (StableHlo.after pieceOps U main_v105 (ix3 h (0 : Fin 1) j) : EReal) = U main_v15 (ix2 h (⟨38 + j.val, by omega⟩ : Fin 639)) := by
  simp only [pieceOps, hostOps0_4, List.drop_succ_cons, List.drop_zero, List.take_succ_cons, List.take_zero]
  entry_read
  exact slice_at _ 38 (by omega) _ h j

set_option maxHeartbeats 40000000 in
set_option maxRecDepth 100000 in
/-- The bias of query 26 of a chunk. -/
theorem piece_26 (U : Valuation τ sig (Elt Ideal)) (h : Fin 8) (j : Fin 576) :
    (StableHlo.after pieceOps U main_v106 (ix3 h (0 : Fin 1) j) : EReal) = U main_v15 (ix2 h (⟨37 + j.val, by omega⟩ : Fin 639)) := by
  simp only [pieceOps, hostOps0_4, List.drop_succ_cons, List.drop_zero, List.take_succ_cons, List.take_zero]
  entry_read
  exact slice_at _ 37 (by omega) _ h j

set_option maxHeartbeats 40000000 in
set_option maxRecDepth 100000 in
/-- The bias of query 27 of a chunk. -/
theorem piece_27 (U : Valuation τ sig (Elt Ideal)) (h : Fin 8) (j : Fin 576) :
    (StableHlo.after pieceOps U main_v107 (ix3 h (0 : Fin 1) j) : EReal) = U main_v15 (ix2 h (⟨36 + j.val, by omega⟩ : Fin 639)) := by
  simp only [pieceOps, hostOps0_4, List.drop_succ_cons, List.drop_zero, List.take_succ_cons, List.take_zero]
  entry_read
  exact slice_at _ 36 (by omega) _ h j

set_option maxHeartbeats 40000000 in
set_option maxRecDepth 100000 in
/-- The bias of query 28 of a chunk. -/
theorem piece_28 (U : Valuation τ sig (Elt Ideal)) (h : Fin 8) (j : Fin 576) :
    (StableHlo.after pieceOps U main_v108 (ix3 h (0 : Fin 1) j) : EReal) = U main_v15 (ix2 h (⟨35 + j.val, by omega⟩ : Fin 639)) := by
  simp only [pieceOps, hostOps0_4, List.drop_succ_cons, List.drop_zero, List.take_succ_cons, List.take_zero]
  entry_read
  exact slice_at _ 35 (by omega) _ h j

set_option maxHeartbeats 40000000 in
set_option maxRecDepth 100000 in
/-- The bias of query 29 of a chunk. -/
theorem piece_29 (U : Valuation τ sig (Elt Ideal)) (h : Fin 8) (j : Fin 576) :
    (StableHlo.after pieceOps U main_v109 (ix3 h (0 : Fin 1) j) : EReal) = U main_v15 (ix2 h (⟨34 + j.val, by omega⟩ : Fin 639)) := by
  simp only [pieceOps, hostOps0_4, List.drop_succ_cons, List.drop_zero, List.take_succ_cons, List.take_zero]
  entry_read
  exact slice_at _ 34 (by omega) _ h j

set_option maxHeartbeats 40000000 in
set_option maxRecDepth 100000 in
/-- The bias of query 30 of a chunk. -/
theorem piece_30 (U : Valuation τ sig (Elt Ideal)) (h : Fin 8) (j : Fin 576) :
    (StableHlo.after pieceOps U main_v110 (ix3 h (0 : Fin 1) j) : EReal) = U main_v15 (ix2 h (⟨33 + j.val, by omega⟩ : Fin 639)) := by
  simp only [pieceOps, hostOps0_4, List.drop_succ_cons, List.drop_zero, List.take_succ_cons, List.take_zero]
  entry_read
  exact slice_at _ 33 (by omega) _ h j

set_option maxHeartbeats 40000000 in
set_option maxRecDepth 100000 in
/-- The bias of query 31 of a chunk. -/
theorem piece_31 (U : Valuation τ sig (Elt Ideal)) (h : Fin 8) (j : Fin 576) :
    (StableHlo.after pieceOps U main_v111 (ix3 h (0 : Fin 1) j) : EReal) = U main_v15 (ix2 h (⟨32 + j.val, by omega⟩ : Fin 639)) := by
  simp only [pieceOps, hostOps0_4, List.drop_succ_cons, List.drop_zero, List.take_succ_cons, List.take_zero]
  entry_read
  exact slice_at _ 32 (by omega) _ h j

set_option maxHeartbeats 40000000 in
set_option maxRecDepth 100000 in
/-- The bias of query 32 of a chunk. -/
theorem piece_32 (U : Valuation τ sig (Elt Ideal)) (h : Fin 8) (j : Fin 576) :
    (StableHlo.after pieceOps U main_v112 (ix3 h (0 : Fin 1) j) : EReal) = U main_v15 (ix2 h (⟨31 + j.val, by omega⟩ : Fin 639)) := by
  simp only [pieceOps, hostOps0_4, List.drop_succ_cons, List.drop_zero, List.take_succ_cons, List.take_zero]
  entry_read
  exact slice_at _ 31 (by omega) _ h j

set_option maxHeartbeats 40000000 in
set_option maxRecDepth 100000 in
/-- The bias of query 33 of a chunk. -/
theorem piece_33 (U : Valuation τ sig (Elt Ideal)) (h : Fin 8) (j : Fin 576) :
    (StableHlo.after pieceOps U main_v113 (ix3 h (0 : Fin 1) j) : EReal) = U main_v15 (ix2 h (⟨30 + j.val, by omega⟩ : Fin 639)) := by
  simp only [pieceOps, hostOps0_4, List.drop_succ_cons, List.drop_zero, List.take_succ_cons, List.take_zero]
  entry_read
  exact slice_at _ 30 (by omega) _ h j

set_option maxHeartbeats 40000000 in
set_option maxRecDepth 100000 in
/-- The bias of query 34 of a chunk. -/
theorem piece_34 (U : Valuation τ sig (Elt Ideal)) (h : Fin 8) (j : Fin 576) :
    (StableHlo.after pieceOps U main_v114 (ix3 h (0 : Fin 1) j) : EReal) = U main_v15 (ix2 h (⟨29 + j.val, by omega⟩ : Fin 639)) := by
  simp only [pieceOps, hostOps0_4, List.drop_succ_cons, List.drop_zero, List.take_succ_cons, List.take_zero]
  entry_read
  exact slice_at _ 29 (by omega) _ h j

set_option maxHeartbeats 40000000 in
set_option maxRecDepth 100000 in
/-- The bias of query 35 of a chunk. -/
theorem piece_35 (U : Valuation τ sig (Elt Ideal)) (h : Fin 8) (j : Fin 576) :
    (StableHlo.after pieceOps U main_v115 (ix3 h (0 : Fin 1) j) : EReal) = U main_v15 (ix2 h (⟨28 + j.val, by omega⟩ : Fin 639)) := by
  simp only [pieceOps, hostOps0_4, List.drop_succ_cons, List.drop_zero, List.take_succ_cons, List.take_zero]
  entry_read
  exact slice_at _ 28 (by omega) _ h j

set_option maxHeartbeats 40000000 in
set_option maxRecDepth 100000 in
/-- The bias of query 36 of a chunk. -/
theorem piece_36 (U : Valuation τ sig (Elt Ideal)) (h : Fin 8) (j : Fin 576) :
    (StableHlo.after pieceOps U main_v116 (ix3 h (0 : Fin 1) j) : EReal) = U main_v15 (ix2 h (⟨27 + j.val, by omega⟩ : Fin 639)) := by
  simp only [pieceOps, hostOps0_4, List.drop_succ_cons, List.drop_zero, List.take_succ_cons, List.take_zero]
  entry_read
  exact slice_at _ 27 (by omega) _ h j

set_option maxHeartbeats 40000000 in
set_option maxRecDepth 100000 in
/-- The bias of query 37 of a chunk. -/
theorem piece_37 (U : Valuation τ sig (Elt Ideal)) (h : Fin 8) (j : Fin 576) :
    (StableHlo.after pieceOps U main_v117 (ix3 h (0 : Fin 1) j) : EReal) = U main_v15 (ix2 h (⟨26 + j.val, by omega⟩ : Fin 639)) := by
  simp only [pieceOps, hostOps0_4, List.drop_succ_cons, List.drop_zero, List.take_succ_cons, List.take_zero]
  entry_read
  exact slice_at _ 26 (by omega) _ h j

set_option maxHeartbeats 40000000 in
set_option maxRecDepth 100000 in
/-- The bias of query 38 of a chunk. -/
theorem piece_38 (U : Valuation τ sig (Elt Ideal)) (h : Fin 8) (j : Fin 576) :
    (StableHlo.after pieceOps U main_v118 (ix3 h (0 : Fin 1) j) : EReal) = U main_v15 (ix2 h (⟨25 + j.val, by omega⟩ : Fin 639)) := by
  simp only [pieceOps, hostOps0_4, List.drop_succ_cons, List.drop_zero, List.take_succ_cons, List.take_zero]
  entry_read
  exact slice_at _ 25 (by omega) _ h j

set_option maxHeartbeats 40000000 in
set_option maxRecDepth 100000 in
/-- The bias of query 39 of a chunk. -/
theorem piece_39 (U : Valuation τ sig (Elt Ideal)) (h : Fin 8) (j : Fin 576) :
    (StableHlo.after pieceOps U main_v119 (ix3 h (0 : Fin 1) j) : EReal) = U main_v15 (ix2 h (⟨24 + j.val, by omega⟩ : Fin 639)) := by
  simp only [pieceOps, hostOps0_4, List.drop_succ_cons, List.drop_zero, List.take_succ_cons, List.take_zero]
  entry_read
  exact slice_at _ 24 (by omega) _ h j

set_option maxHeartbeats 40000000 in
set_option maxRecDepth 100000 in
/-- The bias of query 40 of a chunk. -/
theorem piece_40 (U : Valuation τ sig (Elt Ideal)) (h : Fin 8) (j : Fin 576) :
    (StableHlo.after pieceOps U main_v120 (ix3 h (0 : Fin 1) j) : EReal) = U main_v15 (ix2 h (⟨23 + j.val, by omega⟩ : Fin 639)) := by
  simp only [pieceOps, hostOps0_4, List.drop_succ_cons, List.drop_zero, List.take_succ_cons, List.take_zero]
  entry_read
  exact slice_at _ 23 (by omega) _ h j

set_option maxHeartbeats 40000000 in
set_option maxRecDepth 100000 in
/-- The bias of query 41 of a chunk. -/
theorem piece_41 (U : Valuation τ sig (Elt Ideal)) (h : Fin 8) (j : Fin 576) :
    (StableHlo.after pieceOps U main_v121 (ix3 h (0 : Fin 1) j) : EReal) = U main_v15 (ix2 h (⟨22 + j.val, by omega⟩ : Fin 639)) := by
  simp only [pieceOps, hostOps0_4, List.drop_succ_cons, List.drop_zero, List.take_succ_cons, List.take_zero]
  entry_read
  exact slice_at _ 22 (by omega) _ h j

set_option maxHeartbeats 40000000 in
set_option maxRecDepth 100000 in
/-- The bias of query 42 of a chunk. -/
theorem piece_42 (U : Valuation τ sig (Elt Ideal)) (h : Fin 8) (j : Fin 576) :
    (StableHlo.after pieceOps U main_v122 (ix3 h (0 : Fin 1) j) : EReal) = U main_v15 (ix2 h (⟨21 + j.val, by omega⟩ : Fin 639)) := by
  simp only [pieceOps, hostOps0_4, List.drop_succ_cons, List.drop_zero, List.take_succ_cons, List.take_zero]
  entry_read
  exact slice_at _ 21 (by omega) _ h j

set_option maxHeartbeats 40000000 in
set_option maxRecDepth 100000 in
/-- The bias of query 43 of a chunk. -/
theorem piece_43 (U : Valuation τ sig (Elt Ideal)) (h : Fin 8) (j : Fin 576) :
    (StableHlo.after pieceOps U main_v123 (ix3 h (0 : Fin 1) j) : EReal) = U main_v15 (ix2 h (⟨20 + j.val, by omega⟩ : Fin 639)) := by
  simp only [pieceOps, hostOps0_4, List.drop_succ_cons, List.drop_zero, List.take_succ_cons, List.take_zero]
  entry_read
  exact slice_at _ 20 (by omega) _ h j

set_option maxHeartbeats 40000000 in
set_option maxRecDepth 100000 in
/-- The bias of query 44 of a chunk. -/
theorem piece_44 (U : Valuation τ sig (Elt Ideal)) (h : Fin 8) (j : Fin 576) :
    (StableHlo.after pieceOps U main_v124 (ix3 h (0 : Fin 1) j) : EReal) = U main_v15 (ix2 h (⟨19 + j.val, by omega⟩ : Fin 639)) := by
  simp only [pieceOps, hostOps0_4, List.drop_succ_cons, List.drop_zero, List.take_succ_cons, List.take_zero]
  entry_read
  exact slice_at _ 19 (by omega) _ h j

set_option maxHeartbeats 40000000 in
set_option maxRecDepth 100000 in
/-- The bias of query 45 of a chunk. -/
theorem piece_45 (U : Valuation τ sig (Elt Ideal)) (h : Fin 8) (j : Fin 576) :
    (StableHlo.after pieceOps U main_v125 (ix3 h (0 : Fin 1) j) : EReal) = U main_v15 (ix2 h (⟨18 + j.val, by omega⟩ : Fin 639)) := by
  simp only [pieceOps, hostOps0_4, List.drop_succ_cons, List.drop_zero, List.take_succ_cons, List.take_zero]
  entry_read
  exact slice_at _ 18 (by omega) _ h j

set_option maxHeartbeats 40000000 in
set_option maxRecDepth 100000 in
/-- The bias of query 46 of a chunk. -/
theorem piece_46 (U : Valuation τ sig (Elt Ideal)) (h : Fin 8) (j : Fin 576) :
    (StableHlo.after pieceOps U main_v126 (ix3 h (0 : Fin 1) j) : EReal) = U main_v15 (ix2 h (⟨17 + j.val, by omega⟩ : Fin 639)) := by
  simp only [pieceOps, hostOps0_4, List.drop_succ_cons, List.drop_zero, List.take_succ_cons, List.take_zero]
  entry_read
  exact slice_at _ 17 (by omega) _ h j

set_option maxHeartbeats 40000000 in
set_option maxRecDepth 100000 in
/-- The bias of query 47 of a chunk. -/
theorem piece_47 (U : Valuation τ sig (Elt Ideal)) (h : Fin 8) (j : Fin 576) :
    (StableHlo.after pieceOps U main_v127 (ix3 h (0 : Fin 1) j) : EReal) = U main_v15 (ix2 h (⟨16 + j.val, by omega⟩ : Fin 639)) := by
  simp only [pieceOps, hostOps0_4, List.drop_succ_cons, List.drop_zero, List.take_succ_cons, List.take_zero]
  entry_read
  exact slice_at _ 16 (by omega) _ h j

set_option maxHeartbeats 40000000 in
set_option maxRecDepth 100000 in
/-- The bias of query 48 of a chunk. -/
theorem piece_48 (U : Valuation τ sig (Elt Ideal)) (h : Fin 8) (j : Fin 576) :
    (StableHlo.after pieceOps U main_v128 (ix3 h (0 : Fin 1) j) : EReal) = U main_v15 (ix2 h (⟨15 + j.val, by omega⟩ : Fin 639)) := by
  simp only [pieceOps, hostOps0_4, List.drop_succ_cons, List.drop_zero, List.take_succ_cons, List.take_zero]
  entry_read
  exact slice_at _ 15 (by omega) _ h j

set_option maxHeartbeats 40000000 in
set_option maxRecDepth 100000 in
/-- The bias of query 49 of a chunk. -/
theorem piece_49 (U : Valuation τ sig (Elt Ideal)) (h : Fin 8) (j : Fin 576) :
    (StableHlo.after pieceOps U main_v129 (ix3 h (0 : Fin 1) j) : EReal) = U main_v15 (ix2 h (⟨14 + j.val, by omega⟩ : Fin 639)) := by
  simp only [pieceOps, hostOps0_4, List.drop_succ_cons, List.drop_zero, List.take_succ_cons, List.take_zero]
  entry_read
  exact slice_at _ 14 (by omega) _ h j

set_option maxHeartbeats 40000000 in
set_option maxRecDepth 100000 in
/-- The bias of query 50 of a chunk. -/
theorem piece_50 (U : Valuation τ sig (Elt Ideal)) (h : Fin 8) (j : Fin 576) :
    (StableHlo.after pieceOps U main_v130 (ix3 h (0 : Fin 1) j) : EReal) = U main_v15 (ix2 h (⟨13 + j.val, by omega⟩ : Fin 639)) := by
  simp only [pieceOps, hostOps0_4, List.drop_succ_cons, List.drop_zero, List.take_succ_cons, List.take_zero]
  entry_read
  exact slice_at _ 13 (by omega) _ h j

set_option maxHeartbeats 40000000 in
set_option maxRecDepth 100000 in
/-- The bias of query 51 of a chunk. -/
theorem piece_51 (U : Valuation τ sig (Elt Ideal)) (h : Fin 8) (j : Fin 576) :
    (StableHlo.after pieceOps U main_v131 (ix3 h (0 : Fin 1) j) : EReal) = U main_v15 (ix2 h (⟨12 + j.val, by omega⟩ : Fin 639)) := by
  simp only [pieceOps, hostOps0_4, List.drop_succ_cons, List.drop_zero, List.take_succ_cons, List.take_zero]
  entry_read
  exact slice_at _ 12 (by omega) _ h j

set_option maxHeartbeats 40000000 in
set_option maxRecDepth 100000 in
/-- The bias of query 52 of a chunk. -/
theorem piece_52 (U : Valuation τ sig (Elt Ideal)) (h : Fin 8) (j : Fin 576) :
    (StableHlo.after pieceOps U main_v132 (ix3 h (0 : Fin 1) j) : EReal) = U main_v15 (ix2 h (⟨11 + j.val, by omega⟩ : Fin 639)) := by
  simp only [pieceOps, hostOps0_4, List.drop_succ_cons, List.drop_zero, List.take_succ_cons, List.take_zero]
  entry_read
  exact slice_at _ 11 (by omega) _ h j

set_option maxHeartbeats 40000000 in
set_option maxRecDepth 100000 in
/-- The bias of query 53 of a chunk. -/
theorem piece_53 (U : Valuation τ sig (Elt Ideal)) (h : Fin 8) (j : Fin 576) :
    (StableHlo.after pieceOps U main_v133 (ix3 h (0 : Fin 1) j) : EReal) = U main_v15 (ix2 h (⟨10 + j.val, by omega⟩ : Fin 639)) := by
  simp only [pieceOps, hostOps0_4, List.drop_succ_cons, List.drop_zero, List.take_succ_cons, List.take_zero]
  entry_read
  exact slice_at _ 10 (by omega) _ h j

set_option maxHeartbeats 40000000 in
set_option maxRecDepth 100000 in
/-- The bias of query 54 of a chunk. -/
theorem piece_54 (U : Valuation τ sig (Elt Ideal)) (h : Fin 8) (j : Fin 576) :
    (StableHlo.after pieceOps U main_v134 (ix3 h (0 : Fin 1) j) : EReal) = U main_v15 (ix2 h (⟨9 + j.val, by omega⟩ : Fin 639)) := by
  simp only [pieceOps, hostOps0_4, List.drop_succ_cons, List.drop_zero, List.take_succ_cons, List.take_zero]
  entry_read
  exact slice_at _ 9 (by omega) _ h j

set_option maxHeartbeats 40000000 in
set_option maxRecDepth 100000 in
/-- The bias of query 55 of a chunk. -/
theorem piece_55 (U : Valuation τ sig (Elt Ideal)) (h : Fin 8) (j : Fin 576) :
    (StableHlo.after pieceOps U main_v135 (ix3 h (0 : Fin 1) j) : EReal) = U main_v15 (ix2 h (⟨8 + j.val, by omega⟩ : Fin 639)) := by
  simp only [pieceOps, hostOps0_4, List.drop_succ_cons, List.drop_zero, List.take_succ_cons, List.take_zero]
  entry_read
  exact slice_at _ 8 (by omega) _ h j

set_option maxHeartbeats 40000000 in
set_option maxRecDepth 100000 in
/-- The bias of query 56 of a chunk. -/
theorem piece_56 (U : Valuation τ sig (Elt Ideal)) (h : Fin 8) (j : Fin 576) :
    (StableHlo.after pieceOps U main_v136 (ix3 h (0 : Fin 1) j) : EReal) = U main_v15 (ix2 h (⟨7 + j.val, by omega⟩ : Fin 639)) := by
  simp only [pieceOps, hostOps0_4, List.drop_succ_cons, List.drop_zero, List.take_succ_cons, List.take_zero]
  entry_read
  exact slice_at _ 7 (by omega) _ h j

set_option maxHeartbeats 40000000 in
set_option maxRecDepth 100000 in
/-- The bias of query 57 of a chunk. -/
theorem piece_57 (U : Valuation τ sig (Elt Ideal)) (h : Fin 8) (j : Fin 576) :
    (StableHlo.after pieceOps U main_v137 (ix3 h (0 : Fin 1) j) : EReal) = U main_v15 (ix2 h (⟨6 + j.val, by omega⟩ : Fin 639)) := by
  simp only [pieceOps, hostOps0_4, List.drop_succ_cons, List.drop_zero, List.take_succ_cons, List.take_zero]
  entry_read
  exact slice_at _ 6 (by omega) _ h j

set_option maxHeartbeats 40000000 in
set_option maxRecDepth 100000 in
/-- The bias of query 58 of a chunk. -/
theorem piece_58 (U : Valuation τ sig (Elt Ideal)) (h : Fin 8) (j : Fin 576) :
    (StableHlo.after pieceOps U main_v138 (ix3 h (0 : Fin 1) j) : EReal) = U main_v15 (ix2 h (⟨5 + j.val, by omega⟩ : Fin 639)) := by
  simp only [pieceOps, hostOps0_4, List.drop_succ_cons, List.drop_zero, List.take_succ_cons, List.take_zero]
  entry_read
  exact slice_at _ 5 (by omega) _ h j

set_option maxHeartbeats 40000000 in
set_option maxRecDepth 100000 in
/-- The bias of query 59 of a chunk. -/
theorem piece_59 (U : Valuation τ sig (Elt Ideal)) (h : Fin 8) (j : Fin 576) :
    (StableHlo.after pieceOps U main_v139 (ix3 h (0 : Fin 1) j) : EReal) = U main_v15 (ix2 h (⟨4 + j.val, by omega⟩ : Fin 639)) := by
  simp only [pieceOps, hostOps0_4, List.drop_succ_cons, List.drop_zero, List.take_succ_cons, List.take_zero]
  entry_read
  exact slice_at _ 4 (by omega) _ h j

set_option maxHeartbeats 40000000 in
set_option maxRecDepth 100000 in
/-- The bias of query 60 of a chunk. -/
theorem piece_60 (U : Valuation τ sig (Elt Ideal)) (h : Fin 8) (j : Fin 576) :
    (StableHlo.after pieceOps U main_v140 (ix3 h (0 : Fin 1) j) : EReal) = U main_v15 (ix2 h (⟨3 + j.val, by omega⟩ : Fin 639)) := by
  simp only [pieceOps, hostOps0_4, List.drop_succ_cons, List.drop_zero, List.take_succ_cons, List.take_zero]
  entry_read
  exact slice_at _ 3 (by omega) _ h j

set_option maxHeartbeats 40000000 in
set_option maxRecDepth 100000 in
/-- The bias of query 61 of a chunk. -/
theorem piece_61 (U : Valuation τ sig (Elt Ideal)) (h : Fin 8) (j : Fin 576) :
    (StableHlo.after pieceOps U main_v141 (ix3 h (0 : Fin 1) j) : EReal) = U main_v15 (ix2 h (⟨2 + j.val, by omega⟩ : Fin 639)) := by
  simp only [pieceOps, hostOps0_4, List.drop_succ_cons, List.drop_zero, List.take_succ_cons, List.take_zero]
  entry_read
  exact slice_at _ 2 (by omega) _ h j

set_option maxHeartbeats 40000000 in
set_option maxRecDepth 100000 in
/-- The bias of query 62 of a chunk. -/
theorem piece_62 (U : Valuation τ sig (Elt Ideal)) (h : Fin 8) (j : Fin 576) :
    (StableHlo.after pieceOps U main_v142 (ix3 h (0 : Fin 1) j) : EReal) = U main_v15 (ix2 h (⟨1 + j.val, by omega⟩ : Fin 639)) := by
  simp only [pieceOps, hostOps0_4, List.drop_succ_cons, List.drop_zero, List.take_succ_cons, List.take_zero]
  entry_read
  exact slice_at _ 1 (by omega) _ h j

set_option maxHeartbeats 40000000 in
set_option maxRecDepth 100000 in
/-- The bias of query 63 of a chunk. -/
theorem piece_63 (U : Valuation τ sig (Elt Ideal)) (h : Fin 8) (j : Fin 576) :
    (StableHlo.after pieceOps U main_v143 (ix3 h (0 : Fin 1) j) : EReal) = U main_v15 (ix2 h (⟨0 + j.val, by omega⟩ : Fin 639)) := by
  simp only [pieceOps, hostOps0_4, List.drop_succ_cons, List.drop_zero, List.take_succ_cons, List.take_zero]
  entry_read
  exact slice_at _ 0 (by omega) _ h j

set_option maxHeartbeats 4000000 in
/-- The bias that the host code cuts from the row of distances: each query's begins one place before the query's above. -/
theorem cut_at (U : Valuation τ sig (Elt Ideal)) (h : Fin 8) (a : Fin 4) (b : Fin 16) (j : Fin 576) :
    (StableHlo.after stackOps (StableHlo.after pieceOps U) main_v148 (ix3 h (⟨16 * a.val + b.val, by omega⟩ : Fin 64) j) : EReal) =
      U main_v15 (ix2 h (⟨63 - (16 * a.val + b.val) + j.val, by omega⟩ : Fin 639)) := by
  rw [stack_at]
  fin_cases a
  · fin_cases b
    · exact piece_0 U h j
    · exact piece_1 U h j
    · exact piece_2 U h j
    · exact piece_3 U h j
    · exact piece_4 U h j
    · exact piece_5 U h j
    · exact piece_6 U h j
    · exact piece_7 U h j
    · exact piece_8 U h j
    · exact piece_9 U h j
    · exact piece_10 U h j
    · exact piece_11 U h j
    · exact piece_12 U h j
    · exact piece_13 U h j
    · exact piece_14 U h j
    · exact piece_15 U h j
  · fin_cases b
    · exact piece_16 U h j
    · exact piece_17 U h j
    · exact piece_18 U h j
    · exact piece_19 U h j
    · exact piece_20 U h j
    · exact piece_21 U h j
    · exact piece_22 U h j
    · exact piece_23 U h j
    · exact piece_24 U h j
    · exact piece_25 U h j
    · exact piece_26 U h j
    · exact piece_27 U h j
    · exact piece_28 U h j
    · exact piece_29 U h j
    · exact piece_30 U h j
    · exact piece_31 U h j
  · fin_cases b
    · exact piece_32 U h j
    · exact piece_33 U h j
    · exact piece_34 U h j
    · exact piece_35 U h j
    · exact piece_36 U h j
    · exact piece_37 U h j
    · exact piece_38 U h j
    · exact piece_39 U h j
    · exact piece_40 U h j
    · exact piece_41 U h j
    · exact piece_42 U h j
    · exact piece_43 U h j
    · exact piece_44 U h j
    · exact piece_45 U h j
    · exact piece_46 U h j
    · exact piece_47 U h j
  · fin_cases b
    · exact piece_48 U h j
    · exact piece_49 U h j
    · exact piece_50 U h j
    · exact piece_51 U h j
    · exact piece_52 U h j
    · exact piece_53 U h j
    · exact piece_54 U h j
    · exact piece_55 U h j
    · exact piece_56 U h j
    · exact piece_57 U h j
    · exact piece_58 U h j
    · exact piece_59 U h j
    · exact piece_60 U h j
    · exact piece_61 U h j
    · exact piece_62 U h j
    · exact piece_63 U h j

/-- The dimension numbers of the table's gather. -/
abbrev table_dims := gather_S257x8_S639x1_S639x8_1_0_n_n_0_1_18

/-- The places of the row, as numbers. -/
theorem place_word : ∀ i : Fin 639, (lit0 (S639.rowMajor (ix1 i))).toInt.toNat = min (703 - i.val) 256 := by
  decide +kernel

/-- The places as the gather takes them. -/
def places : IVec S639x1 32 :=
  broadcastInDim S639x1 ![0] bcast_S639_S639x1_0
    (select (constantI S639 1 0#1)
      (addi (fun i => lit0 (S639.rowMajor i)) (broadcastInDim S639 ![] bcast_S_S639 (constantI S_ 32 257#32)))
      fun i => lit0 (S639.rowMajor i))

/-- The place of an entry of the row. -/
theorem places_at (i : Fin 639) : (places (ix2 i (0 : Fin 1))).toInt.toNat = min (703 - i.val) 256 := by
  refine Eq.trans (congrArg (fun z : BitVec 32 => z.toInt.toNat) ?_) (place_word i)
  unfold places
  pointwise

/-- The row of distances at an index is an entry of the table. -/
theorem row_read (t : FVec Ideal S257x8 .f32) (h : Fin 8) (i : Fin 639) :
    transpose S8x639 [1, 0] (Host.gather table_dims t places) transposes_S639x8_S8x639_1_0 (ix2 h i) =
      t (ix2 (⟨min (703 - i.val) 256, by omega⟩ : Fin 257) h) := by
  have e : transpose S8x639 [1, 0] (Host.gather table_dims t places) transposes_S639x8_S8x639_1_0 (ix2 h i) =
      Host.gather table_dims t places (ix2 i h) := by
    pointwise
  rw [e]
  unfold Host.gather
  refine congrArg t (funext fun a => Fin.ext ?_)
  show table_dims.start _ places a + table_dims.batchCoord _ a + table_dims.offCoord _ a = _
  match a with
  | ⟨0, _⟩ =>
    have h1 : table_dims.start (ix2 i h) places 0 = min (places (ix2 i (0 : Fin 1))).toInt.toNat (257 - 1) := by
      unfold GatherDims.start
      rw [dif_pos (show (0 : Fin 2) ∈ table_dims.startIndexMap from by decide)]
      have hi : table_dims.siIdx (ix2 i h) ⟨List.idxOf (0 : Fin 2) table_dims.startIndexMap, by decide⟩ = ix2 i (0 : Fin 1) := by
        funext z
        refine Fin.ext ?_
        match z with
        | ⟨0, _⟩ => rfl
        | ⟨1, _⟩ => rfl
      exact congrArg (fun i => min (places i).toInt.toNat (257 - 1)) hi
    have h2 : table_dims.offCoord (ix2 i h) 0 = 0 := rfl
    have h3 : table_dims.batchCoord (ix2 i h) 0 = 0 := rfl
    have h4 := places_at i
    show table_dims.start (ix2 i h) places 0 + table_dims.batchCoord (ix2 i h) 0 + table_dims.offCoord (ix2 i h) 0 = min (703 - i.val) 256
    omega
  | ⟨1, _⟩ =>
    have h1 : table_dims.start (ix2 i h) places 1 ≤ 0 := GatherDims.start_le _ _ _ _
    have h2 : table_dims.offCoord (ix2 i h) 1 = h.val := rfl
    have h3 : table_dims.batchCoord (ix2 i h) 1 = 0 := rfl
    show table_dims.start (ix2 i h) places 1 + table_dims.batchCoord (ix2 i h) 1 + table_dims.offCoord (ix2 i h) 1 = h.val
    omega

/-- The row of distances that the host code gathers, entry by entry. -/
theorem row_at (m : (ℓ : Loc nD τ sig) → Buf (Elt Ideal) ℓ) (c : Dev nD) (h : Fin 8) (i : Fin 639) :
    (StableHlo.after rowOps (fun b => m (c, b)) main_v15 (ix2 h i) : EReal) =
      (m ((c : Thread nD τ).loc main_arg3) : FVec Ideal S257x8 .f32) (ix2 (⟨min (703 - i.val) 256, by omega⟩ : Fin 257) h) := by
  simp only [rowOps, hostOps0, hostOps0_1, hostOps0_2, hostOps0_3, hostOps0_4, List.take_succ_cons, List.take_zero, List.cons_append, List.nil_append]
  entry_read
  exact row_read _ h i

/-- The bias that the host code cuts from the row of distances, as entries of the table. -/
theorem table_at (m : (ℓ : Loc nD τ sig) → Buf (Elt Ideal) ℓ) (c : Dev nD) (h : Fin 8) (l : Fin 64) (j : Fin 576) :
    (StableHlo.after stackOps (StableHlo.after pieceOps (StableHlo.after rowOps fun b => m (c, b))) main_v148 (ix3 h l j) : EReal) =
      (m ((c : Thread nD τ).loc main_arg3) : FVec Ideal S257x8 .f32) (ix2 (⟨min (640 + l.val - j.val) 256, by omega⟩ : Fin 257) h) := by
  have e := (cut_at (StableHlo.after rowOps fun b => m (c, b)) h ⟨l.val / 16, by omega⟩ ⟨l.val % 16, by omega⟩ j).trans
    (row_at m c h _)
  have hl : (⟨16 * (l.val / 16) + l.val % 16, by omega⟩ : Fin 64) = l := Fin.ext (by show 16 * (l.val / 16) + l.val % 16 = l.val; omega)
  have hi : (⟨min (703 - (63 - (16 * (l.val / 16) + l.val % 16) + j.val)) 256, by omega⟩ : Fin 257) =
      ⟨min (640 + l.val - j.val) 256, by omega⟩ := Fin.ext (by
    show min (703 - (63 - (16 * (l.val / 16) + l.val % 16) + j.val)) 256 = min (640 + l.val - j.val) 256
    omega)
  exact (congrArg (fun z => (StableHlo.after stackOps (StableHlo.after pieceOps (StableHlo.after rowOps fun b => m (c, b))) main_v148 (ix3 h z j) : EReal)) hl).symm.trans
    (e.trans (congrArg (fun z => (m ((c : Thread nD τ).loc main_arg3) : FVec Ideal S257x8 .f32) (ix2 z h)) hi))

end Cert.AttnIdeal.Value

end
-- ==== Proof.AttnEntry.lean ====
/-
  The arrays that the attention kernel's launch reads, entry by entry, and the blocks its steps read from them.
-/
module

public import proofs.«01_k».proof.Proof.Gen.AttnIdeal.Value
public import Idealize.ShloMosaic.Lib.Pipeline.ValueKit
public import Idealize.ShloMosaic.Lib.Pointwise
public import Idealize.ShloMosaic.Lib.StableHlo.ReadAt
public import proofs.«01_k».proof.Proof.AttnScores
public import proofs.«01_k».proof.Proof.AttnBias

@[expose] public section

set_option maxRecDepth 16384

noncomputable section

namespace Cert.AttnIdeal.Value

open Cert.AttnIdeal Cert.AttnIdeal.Gen Idealize.ShloMosaic Idealize.ShloMosaic.TcCoe Idealize.SL.Sem Cert.AttnMath
open Idealize.ShloMosaic.Pipeline (Dat)
variable (m : (ℓ : Loc nD τ sig) → Buf (Elt Ideal) ℓ)

/-- The queries, keys, values and table of relative positions that core `c` is given. -/
abbrev Q (c : Dev nD) : FVec Ideal S16x4096x8x64 .f32 := m ((c : Thread nD τ).loc main_arg0)
abbrev K (c : Dev nD) : FVec Ideal S16x4096x8x64 .f32 := m ((c : Thread nD τ).loc main_arg1)
abbrev W (c : Dev nD) : FVec Ideal S16x4096x8x64 .f32 := m ((c : Thread nD τ).loc main_arg2)
abbrev B (c : Dev nD) : FVec Ideal S257x8 .f32 := m ((c : Thread nD τ).loc main_arg3)

/-- The same arrays as functions of their coordinates, the table read at the distance of query and key. -/
abbrev qs (c : Dev nD) : Fin 16 → Fin 4096 → Fin 8 → Fin 64 → EReal := fun b s h d => Q m c (ix4 b s h d)
abbrev ks (c : Dev nD) : Fin 16 → Fin 4096 → Fin 8 → Fin 64 → EReal := fun b s h d => K m c (ix4 b s h d)
abbrev vs (c : Dev nD) : Fin 16 → Fin 4096 → Fin 8 → Fin 64 → EReal := fun b s h d => W m c (ix4 b s h d)
abbrev bs (c : Dev nD) : Fin 8 → Fin 64 → Fin 576 → EReal :=
  fun h l j => B m c (ix2 (⟨min (640 + l.val - j.val) 256, by omega⟩ : Fin 257) h)

/-- The queries that the launch reads: scaled, the heads side by side. -/
theorem entry_queries (c : Dev nD) (b : Fin 16) (s : Fin 4096) (j : Fin 512) :
    (V m c main_v3 (ix3 b s j) : EReal) =
      qs m c b s ⟨j.val / 64, by omega⟩ ⟨j.val % 64, by omega⟩ * scale := by
  simp only [V, hostOps0, hostOps0_1, hostOps0_2, hostOps0_3, hostOps0_4, List.flatten_cons,
    List.flatten_nil, List.append_nil, List.cons_append, List.nil_append]
  entry_read
  pointwise

/-- The zero of the padding, an integer zero converted, is zero. -/
theorem zero_half : (FloatOps.sitofp .bf16 (0#32 : BitVec 32) : Ideal .bf16) = (0 : EReal) := by
  show (((0#32 : BitVec 32).toInt : ℝ) : EReal) = 0
  simp

/-- The keys that the launch reads: 512 zero rows in front. -/
theorem entry_keys (c : Dev nD) (b : Fin 16) (n : Fin 4608) (j : Fin 512) :
    (V m c main_v8 (ix3 b n j) : EReal) =
      lead (ks m c) b n ⟨j.val / 64, by omega⟩ ⟨j.val % 64, by omega⟩ := by
  simp only [V, hostOps0, hostOps0_1, hostOps0_2, hostOps0_3, hostOps0_4, List.flatten_cons,
    List.flatten_nil, List.append_nil, List.cons_append, List.nil_append]
  entry_read
  simp only [StableHlo.TRef.ofBuf_toBuf]
  simp -implicitDefEqProofs only [StableHlo.TRef.toBuf, StableHlo.TRef.ofBuf, cast_eq]
  pointwise
  by_cases hn : 512 ≤ n.val
  · have h2 : 512 ≤ n.val ∧ n.val - 512 < 4096 := ⟨hn, by omega⟩
    exact (dif_pos h2).trans (lead_pos (ks m c) b n ⟨j.val / 64, by omega⟩ ⟨j.val % 64, by omega⟩ hn).symm
  · have h2 : ¬(512 ≤ n.val ∧ n.val - 512 < 4096) := fun h => hn h.1
    exact (dif_neg h2).trans (zero_half.trans (lead_neg (ks m c) b n ⟨j.val / 64, by omega⟩ ⟨j.val % 64, by omega⟩ hn).symm)

/-- The values that the launch reads: 512 zero rows in front. -/
theorem entry_values (c : Dev nD) (b : Fin 16) (n : Fin 4608) (j : Fin 512) :
    (V m c main_v9 (ix3 b n j) : EReal) =
      lead (vs m c) b n ⟨j.val / 64, by omega⟩ ⟨j.val % 64, by omega⟩ := by
  simp only [V, hostOps0, hostOps0_1, hostOps0_2, hostOps0_3, hostOps0_4, List.flatten_cons,
    List.flatten_nil, List.append_nil, List.cons_append, List.nil_append]
  entry_read
  simp only [StableHlo.TRef.ofBuf_toBuf]
  simp -implicitDefEqProofs only [StableHlo.TRef.toBuf, StableHlo.TRef.ofBuf, cast_eq]
  pointwise
  by_cases hn : 512 ≤ n.val
  · have h2 : 512 ≤ n.val ∧ n.val - 512 < 4096 := ⟨hn, by omega⟩
    exact (dif_pos h2).trans (lead_pos (vs m c) b n ⟨j.val / 64, by omega⟩ ⟨j.val % 64, by omega⟩ hn).symm
  · have h2 : ¬(512 ≤ n.val ∧ n.val - 512 < 4096) := fun h => hn h.1
    exact (dif_neg h2).trans (zero_half.trans (lead_neg (vs m c) b n ⟨j.val / 64, by omega⟩ ⟨j.val % 64, by omega⟩ hn).symm)

set_option maxHeartbeats 4000000 in
/-- The last host operations: for each head four copies of the bias side by side under each other, each 64 columns
    further to the right than the one above, and −∞ elsewhere. Their buffer is laid out in pairs of heads. -/
theorem band_at (X : Valuation τ sig (Elt Ideal)) (p : Fin 4) (r : Fin 512) (j : Fin 768) :
    (StableHlo.after bandOps X main_v160 (ix3 p r j) : EReal) =
      shifted (fun h l j => (X main_v148 (ix3 h l j) : EReal)) ⟨p.val * 2 + r.val / 256, by omega⟩ ⟨r.val % 256, by omega⟩ j := by
  simp only [bandOps, hostOps0_4, List.drop_succ_cons, List.drop_zero]
  after_reads_at
  after_reads_at
  after_reads_at
  rw [show Ideal.ofBits FTy.f32 4286578688#32 = ⊥ from mask_eq]
  exact four_bands (fun a b => (X main_v148 (ix3 (⟨p.val * 2 + r.val / 256, by omega⟩ : Fin 8) a b) : EReal)) ⟨r.val % 256, by omega⟩ j

/-- The bias that the launch reads. -/
theorem entry_bias (c : Dev nD) (p : Fin 4) (r : Fin 512) (j : Fin 768) :
    (V m c main_v160 (ix3 p r j) : EReal) =
      shifted (bs m c) ⟨p.val * 2 + r.val / 256, by omega⟩ ⟨r.val % 256, by omega⟩ j := by
  have e : V m c main_v160 = StableHlo.after bandOps (StableHlo.after stackOps (StableHlo.after pieceOps
      (StableHlo.after rowOps fun b => m (c, b)))) main_v160 := by
    show StableHlo.after (List.flatten [hostOps0, hostOps0_1, hostOps0_2, hostOps0_3, hostOps0_4]) (fun b => m (c, b)) main_v160 = _
    rw [host_split, StableHlo.after_append, StableHlo.after_append, StableHlo.after_append]
  refine (congrFun e (ix3 p r j)).trans ((band_at _ p r j).trans ?_)
  exact congrArg (fun f => shifted f ⟨p.val * 2 + r.val / 256, by omega⟩ ⟨r.val % 256, by omega⟩ j)
    (funext fun h => funext fun l => funext fun j => table_at m c h l j)

/-- The blocks that step `t` reads and writes. -/
theorem idx : ∀ t : Fin cfg0.N, win0_0.index t = ![t.val / 16, t.val % 16, 0] ∧
    win0_1.index t = ![t.val / 16, 0, 0] ∧ win0_2.index t = ![t.val / 16, 0, 0] ∧
    win0_3.index t = ![0, 0, 0] ∧ win0_4.index t = ![t.val / 16, t.val % 16, 0] ∧
    (grid0.coords t 1).val = t.val % 16 :=
  (by decide +kernel : ∀ t : Fin grid0.N, _)

/-- Where step `t` begins to read its keys and values. -/
theorem off : ∀ t : Fin cfg0.N, k0_off1 (grid0.coords t) 0 = 0 ∧
    k0_off1 (grid0.coords t) 1 = 256 * (t.val % 16) ∧ k0_off1 (grid0.coords t) 2 = 0 :=
  (by decide +kernel : ∀ t : Fin grid0.N, _)

/-- There are 256 steps. -/
theorem step_lt (t : Fin cfg0.N) : t.val < 256 := lt_of_lt_of_eq t.isLt (by decide +kernel)

/-- The block of queries that step `t` reads. -/
theorem queries_at (c : Dev nD) (t : Fin cfg0.N) (l : Fin 256) (j : Fin 512) :
    (iblk m c 0 t (ix3 (0 : Fin 1) l j) : EReal) =
      qs m c ⟨t.val / 16, by have := step_lt t; omega⟩ ⟨256 * (t.val % 16) + l.val, by omega⟩
        ⟨j.val / 64, by omega⟩ ⟨j.val % 64, by omega⟩ * scale := by
  refine Eq.trans ?_ (entry_queries m c ⟨t.val / 16, by have := step_lt t; omega⟩
    ⟨256 * (t.val % 16) + l.val, by omega⟩ j)
  blk_ext [iblk, idx t]

/-- The keys that step `t` reads. -/
theorem keys_at (c : Dev nD) (t : Fin cfg0.N) (n : Fin 4608) (j : Fin 512) :
    (iblk m c 1 t (ix3 (0 : Fin 1) n j) : EReal) =
      lead (ks m c) ⟨t.val / 16, by have := step_lt t; omega⟩ n
        ⟨j.val / 64, by omega⟩ ⟨j.val % 64, by omega⟩ := by
  refine Eq.trans ?_ (entry_keys m c ⟨t.val / 16, by have := step_lt t; omega⟩ n j)
  blk_ext [iblk, idx t]

/-- The values that step `t` reads. -/
theorem values_at (c : Dev nD) (t : Fin cfg0.N) (n : Fin 4608) (j : Fin 512) :
    (iblk m c 2 t (ix3 (0 : Fin 1) n j) : EReal) =
      lead (vs m c) ⟨t.val / 16, by have := step_lt t; omega⟩ n
        ⟨j.val / 64, by omega⟩ ⟨j.val % 64, by omega⟩ := by
  refine Eq.trans ?_ (entry_values m c ⟨t.val / 16, by have := step_lt t; omega⟩ n j)
  blk_ext [iblk, idx t]

/-- The bias that step `t` reads. -/
theorem bias_at (c : Dev nD) (t : Fin cfg0.N) (p : Fin 4) (r : Fin 512) (j : Fin 768) :
    (iblk m c 3 t (ix3 p r j) : EReal) =
      shifted (bs m c) ⟨p.val * 2 + r.val / 256, by omega⟩ ⟨r.val % 256, by omega⟩ j := by
  refine Eq.trans ?_ (entry_bias m c p r j)
  blk_ext [iblk, idx t]

end Cert.AttnIdeal.Value

end
-- ==== Proof.AttnPiece.lean ====
/-
  One pair of heads of the attention kernel: what its masked sums over 128 lanes come to.
-/
module

public import Idealize.ShloMosaic.Lib.WordCmp
public import proofs.«01_k».proof.Proof.AttnScores

@[expose] public section

noncomputable section

namespace Cert.AttnMath

open Idealize.ShloMosaic

/-- A choice by lane: the first head of the pair below lane 64, the second from there. -/
theorem lane_select (d : Fin 128) (x y : EReal) :
    Scalar.select (IntOp.cmpi .slt (BitVec.ofNat 32 d.val) 64#32) x y = if d.val < 64 then x else y := by
  have e : IntOp.cmpi .slt (BitVec.ofNat 32 d.val) 64#32 = BitVec.ofBool (decide (d.val < 64)) :=
    WordCmp.cmpi_slt_ofNat (by omega) (by omega)
  rw [e, WordCmp.select_ofBool]
  simp only [decide_eq_true_eq]

/-- A choice by column: whether the column lies past the 512 rows of padding. -/
theorem column_select (g : ℕ) (hg : g < 16) (r : Fin 768) (x y : EReal) :
    Scalar.select (IntOp.cmpi .sge (IntOp.addi (Scalar.muli (BitVec.ofNat 32 g) 256#32) (BitVec.ofNat 32 r.val)) 512#32) x y
      = if 512 ≤ 256 * g + r.val then x else y := by
  have e : IntOp.addi (Scalar.muli (BitVec.ofNat 32 g) 256#32) (BitVec.ofNat 32 r.val) = BitVec.ofNat 32 (256 * g + r.val) := by
    rw [Nat.mul_comm]
    exact (congrArg (IntOp.addi · _) (WordCmp.muli_ofNat g 256)).trans (WordCmp.addi_ofNat _ _)
  have e2 : IntOp.cmpi .sge (BitVec.ofNat 32 (256 * g + r.val)) 512#32 = BitVec.ofBool (decide (512 ≤ 256 * g + r.val)) :=
    WordCmp.cmpi_sge_ofNat (by omega) (by omega)
  rw [e, e2, WordCmp.select_ofBool]
  simp only [decide_eq_true_eq]

section
variable (q k v : Fin 16 → Fin 4096 → Fin 8 → Fin 64 → EReal) (e : Fin 8 → Fin 64 → Fin 576 → EReal)
  (b g : Fin 16) (p : Fin 4) (l : Fin 256) (x : Fin 128)
  (Qd : Fin 128 → EReal) (Kr : Fin 768 → Fin 128 → EReal) (B0 B1 Vr : Fin 768 → EReal)

/-- The first head's score, from the lanes below 64. -/
theorem score_first
    (hQ : ∀ d : Fin 128, Qd d = q b ⟨256 * g.val + l.val, by omega⟩ ⟨2 * p.val + d.val / 64, by omega⟩ ⟨d.val % 64, by omega⟩ * scale)
    (hK : ∀ (r : Fin 768) (d : Fin 128), Kr r d = lead k b ⟨256 * g.val + r.val, by omega⟩ ⟨2 * p.val + d.val / 64, by omega⟩ ⟨d.val % 64, by omega⟩)
    (hB0 : ∀ r, B0 r = shifted e ⟨2 * p.val, by omega⟩ l r) (h : Fin 8) (hh : h.val = 2 * p.val) (r : Fin 768) :
    (if 512 ≤ 256 * g.val + r.val then (∑ d : Fin 128, if d.val < 64 then Qd d * Kr r d else 0) + B0 r else ⊥)
      = score q k e b g h l r := by
  have h2 : 2 * p.val < 8 := by clear hh h; omega
  obtain rfl : h = ⟨2 * p.val, h2⟩ := Fin.ext hh
  rw [score, hB0]
  refine if_congr Iff.rfl (congrArg (· + _) (sum_first _ _ (fun d => ?_) fun d hd => if_neg (by omega))) rfl
  have h0 : (d.val : ℕ) / 64 = 0 := by omega
  have h1 : (d.val : ℕ) % 64 = d.val := by omega
  rw [if_pos (show d.val < 64 by omega), hQ, hK]
  simp only [h0, h1, Nat.add_zero]

/-- The second head's score, from the lanes from 64 on. -/
theorem score_second
    (hQ : ∀ d : Fin 128, Qd d = q b ⟨256 * g.val + l.val, by omega⟩ ⟨2 * p.val + d.val / 64, by omega⟩ ⟨d.val % 64, by omega⟩ * scale)
    (hK : ∀ (r : Fin 768) (d : Fin 128), Kr r d = lead k b ⟨256 * g.val + r.val, by omega⟩ ⟨2 * p.val + d.val / 64, by omega⟩ ⟨d.val % 64, by omega⟩)
    (hB1 : ∀ r, B1 r = shifted e ⟨2 * p.val + 1, by omega⟩ l r) (h : Fin 8) (hh : h.val = 2 * p.val + 1) (r : Fin 768) :
    (if 512 ≤ 256 * g.val + r.val then (∑ d : Fin 128, if d.val < 64 then 0 else Qd d * Kr r d) + B1 r else ⊥)
      = score q k e b g h l r := by
  have h2 : 2 * p.val + 1 < 8 := by clear hh h; omega
  obtain rfl : h = ⟨2 * p.val + 1, h2⟩ := Fin.ext hh
  rw [score, hB1]
  refine if_congr Iff.rfl (congrArg (· + _) (sum_second _ _ (fun d => ?_) fun d hd => if_pos (by omega))) rfl
  have h0 : (64 + d.val) / 64 = 1 := by omega
  have h1 : (64 + d.val) % 64 = d.val := by omega
  rw [if_neg (show ¬64 + d.val < 64 by omega), hQ, hK]
  simp only [h0, h1]

/-- One entry of a pair's result: below lane 64 the first head's weighted sum, from there the second's. -/
theorem piece (z start : EReal) (hz : z = ⊥) (hs : start = ⊥) (i : ℕ) (hi : i = g.val)
    (hQ : ∀ d : Fin 128, Qd d = q b ⟨256 * g.val + l.val, by omega⟩ ⟨2 * p.val + d.val / 64, by omega⟩ ⟨d.val % 64, by omega⟩ * scale)
    (hK : ∀ (r : Fin 768) (d : Fin 128), Kr r d = lead k b ⟨256 * g.val + r.val, by omega⟩ ⟨2 * p.val + d.val / 64, by omega⟩ ⟨d.val % 64, by omega⟩)
    (hB0 : ∀ r, B0 r = shifted e ⟨2 * p.val, by omega⟩ l r)
    (hB1 : ∀ r, B1 r = shifted e ⟨2 * p.val + 1, by omega⟩ l r)
    (hV : ∀ r, Vr r = lead v b ⟨256 * g.val + r.val, by omega⟩ ⟨2 * p.val + x.val / 64, by omega⟩ ⟨x.val % 64, by omega⟩) :
    Scalar.select (IntOp.cmpi .slt (BitVec.ofNat 32 x.val) 64#32)
      (Ideal.div
        (∑ r : Fin 768, Ideal.exp
          (Scalar.select (IntOp.cmpi .sge (IntOp.addi (Scalar.muli (BitVec.ofNat 32 i) 256#32) (BitVec.ofNat 32 r.val)) 512#32)
            ((∑ d : Fin 128, Scalar.select (IntOp.cmpi .slt (BitVec.ofNat 32 d.val) 64#32) (Qd d * Kr r d) 0) + B0 r) z -
          Finset.fold max start (fun r : Fin 768 =>
            Scalar.select (IntOp.cmpi .sge (IntOp.addi (Scalar.muli (BitVec.ofNat 32 i) 256#32) (BitVec.ofNat 32 r.val)) 512#32)
              ((∑ d : Fin 128, Scalar.select (IntOp.cmpi .slt (BitVec.ofNat 32 d.val) 64#32) (Qd d * Kr r d) 0) + B0 r) z) Finset.univ) * Vr r)
        (∑ r : Fin 768, Ideal.exp
          (Scalar.select (IntOp.cmpi .sge (IntOp.addi (Scalar.muli (BitVec.ofNat 32 i) 256#32) (BitVec.ofNat 32 r.val)) 512#32)
            ((∑ d : Fin 128, Scalar.select (IntOp.cmpi .slt (BitVec.ofNat 32 d.val) 64#32) (Qd d * Kr r d) 0) + B0 r) z -
          Finset.fold max start (fun r : Fin 768 =>
            Scalar.select (IntOp.cmpi .sge (IntOp.addi (Scalar.muli (BitVec.ofNat 32 i) 256#32) (BitVec.ofNat 32 r.val)) 512#32)
              ((∑ d : Fin 128, Scalar.select (IntOp.cmpi .slt (BitVec.ofNat 32 d.val) 64#32) (Qd d * Kr r d) 0) + B0 r) z) Finset.univ)))
      (Ideal.div
        (∑ r : Fin 768, Ideal.exp
          (Scalar.select (IntOp.cmpi .sge (IntOp.addi (Scalar.muli (BitVec.ofNat 32 i) 256#32) (BitVec.ofNat 32 r.val)) 512#32)
            ((∑ d : Fin 128, Scalar.select (IntOp.cmpi .slt (BitVec.ofNat 32 d.val) 64#32) 0 (Qd d * Kr r d)) + B1 r) z -
          Finset.fold max start (fun r : Fin 768 =>
            Scalar.select (IntOp.cmpi .sge (IntOp.addi (Scalar.muli (BitVec.ofNat 32 i) 256#32) (BitVec.ofNat 32 r.val)) 512#32)
              ((∑ d : Fin 128, Scalar.select (IntOp.cmpi .slt (BitVec.ofNat 32 d.val) 64#32) 0 (Qd d * Kr r d)) + B1 r) z) Finset.univ) * Vr r)
        (∑ r : Fin 768, Ideal.exp
          (Scalar.select (IntOp.cmpi .sge (IntOp.addi (Scalar.muli (BitVec.ofNat 32 i) 256#32) (BitVec.ofNat 32 r.val)) 512#32)
            ((∑ d : Fin 128, Scalar.select (IntOp.cmpi .slt (BitVec.ofNat 32 d.val) 64#32) 0 (Qd d * Kr r d)) + B1 r) z -
          Finset.fold max start (fun r : Fin 768 =>
            Scalar.select (IntOp.cmpi .sge (IntOp.addi (Scalar.muli (BitVec.ofNat 32 i) 256#32) (BitVec.ofNat 32 r.val)) 512#32)
              ((∑ d : Fin 128, Scalar.select (IntOp.cmpi .slt (BitVec.ofNat 32 d.val) 64#32) 0 (Qd d * Kr r d)) + B1 r) z) Finset.univ)))
    = late (score q k e b g ⟨2 * p.val + x.val / 64, by omega⟩ l)
        fun r => lead v b ⟨256 * g.val + r.val, by omega⟩ ⟨2 * p.val + x.val / 64, by omega⟩ ⟨x.val % 64, by omega⟩ := by
  subst hi hz hs
  simp only [column_select g.val g.isLt, lane_select, hV]
  by_cases hx : x.val < 64
  · rw [if_pos hx]
    simp only [score_first q k e b g p l Qd Kr B0 hQ hK hB0 ⟨2 * p.val + x.val / 64, by omega⟩ (by simp only; omega)]
  · rw [if_neg hx]
    simp only [score_second q k e b g p l Qd Kr B1 hQ hK hB1 ⟨2 * p.val + x.val / 64, by omega⟩ (by simp only; omega)]
end

end Cert.AttnMath

end
-- ==== Proof.AttnValue.lean ====
/-
  The attention kernel's result, entry by entry.
-/
module

public import proofs.«01_k».proof.Proof.AttnEntry
public import proofs.«01_k».proof.Proof.AttnPiece

@[expose] public section

set_option maxRecDepth 16384

noncomputable section

namespace Cert.AttnIdeal.Value

open Cert.AttnIdeal Cert.AttnIdeal.Gen Idealize.ShloMosaic Idealize.ShloMosaic.TcCoe Idealize.SL.Sem Cert.AttnMath
open Idealize.ShloMosaic.Pipeline (Dat)

variable (m : (ℓ : Loc nD τ sig) → Buf (Elt Ideal) ℓ)

/-- The kernel's mask value is −∞. -/
theorem mask_bot : (Named.named κ "mask" 0xF149F2CA#32 : Ideal .f32) = (⊥ : EReal) :=
  IdealRules.named_const.ideal_named_scalar _ _ _ _ rfl

/-- The result array: each entry is the weighted sum of the blocked program. -/
abbrev attended (c : Dev nD) : FVec Ideal S16x4096x512 .bf16 := fun i =>
  blocked (qs m c) (ks m c) (vs m c) (bs m c) (i 0) (i 1) ⟨(i 2).val / 64, by have := (i 2).isLt; change _ < 512 at this; omega⟩
    ⟨(i 2).val % 64, by omega⟩

section
variable (c : Dev nD) (t : Fin cfg0.N) (p : Fin 4) (l : Fin 256) (r : Fin 768) (d : Fin 128)

/-- The queries of one lane of a pair of heads. -/
theorem lane_queries (j : Fin 512) (hj : j.val = 128 * p.val + d.val) : (iblk m c 0 t (ix3 (0 : Fin 1) l j) : EReal) =
    qs m c ⟨t.val / 16, by have := step_lt t; omega⟩ ⟨256 * (t.val % 16) + l.val, by omega⟩
      ⟨2 * p.val + d.val / 64, by omega⟩ ⟨d.val % 64, by omega⟩ * scale := by
  have h1 : j.val / 64 = 2 * p.val + d.val / 64 := by omega
  have h2 : j.val % 64 = d.val % 64 := by omega
  rw [queries_at]
  simp only [h1, h2]

/-- The keys of one lane of a pair of heads, at one column. -/
theorem lane_keys (u : Fin 1) (n : Fin 4608) (j : Fin 512) (hn : n.val = k0_off1 (grid0.coords t) 1 + r.val)
    (hj : j.val = k0_off1 (grid0.coords t) 2 + (128 * p.val + d.val)) : (iblk m c 1 t (ix3 u n j) : EReal) =
    lead (ks m c) ⟨t.val / 16, by have := step_lt t; omega⟩ ⟨256 * (t.val % 16) + r.val, by omega⟩
      ⟨2 * p.val + d.val / 64, by omega⟩ ⟨d.val % 64, by omega⟩ := by
  rw [(off t).2.1] at hn
  rw [(off t).2.2] at hj
  obtain rfl : u = 0 := Subsingleton.elim _ _
  obtain rfl : n = ⟨256 * (t.val % 16) + r.val, by clear hn; omega⟩ := Fin.ext hn
  have h1 : j.val / 64 = 2 * p.val + d.val / 64 := by omega
  have h2 : j.val % 64 = d.val % 64 := by omega
  rw [keys_at]
  simp only [h1, h2]

/-- The values of one lane of a pair of heads, at one column. -/
theorem lane_values (u : Fin 1) (n : Fin 4608) (j : Fin 512) (hn : n.val = k0_off1 (grid0.coords t) 1 + r.val)
    (hj : j.val = k0_off1 (grid0.coords t) 2 + (128 * p.val + d.val)) : (iblk m c 2 t (ix3 u n j) : EReal) =
    lead (vs m c) ⟨t.val / 16, by have := step_lt t; omega⟩ ⟨256 * (t.val % 16) + r.val, by omega⟩
      ⟨2 * p.val + d.val / 64, by omega⟩ ⟨d.val % 64, by omega⟩ := by
  rw [(off t).2.1] at hn
  rw [(off t).2.2] at hj
  obtain rfl : u = 0 := Subsingleton.elim _ _
  obtain rfl : n = ⟨256 * (t.val % 16) + r.val, by clear hn; omega⟩ := Fin.ext hn
  have h1 : j.val / 64 = 2 * p.val + d.val / 64 := by omega
  have h2 : j.val % 64 = d.val % 64 := by omega
  rw [values_at]
  simp only [h1, h2]

/-- The bias of a pair's first head. -/
theorem first_bias (j : Fin 512) (hj : j.val = l.val) : (iblk m c 3 t (ix3 p j r) : EReal) =
    shifted (bs m c) ⟨2 * p.val, by omega⟩ l r := by
  have h1 : p.val * 2 + j.val / 256 = 2 * p.val := by omega
  have h2 : j.val % 256 = l.val := by omega
  rw [bias_at]
  simp only [h1, h2]

/-- The bias of a pair's second head. -/
theorem second_bias (j : Fin 512) (hj : j.val = 256 + l.val) : (iblk m c 3 t (ix3 p j r) : EReal) =
    shifted (bs m c) ⟨2 * p.val + 1, by omega⟩ l r := by
  have h1 : p.val * 2 + j.val / 256 = 2 * p.val + 1 := by omega
  have h2 : j.val % 256 = l.val := by omega
  rw [bias_at]
  simp only [h1, h2]

/-- Where step `t`'s entries lie in the result. -/
theorem attended_at (y : ((cfg0.win 4).xblock (cfg0.grid.coords t)).Idx) (h1 : (y 1).val = l.val)
    (h2 : (y 2).val = 128 * p.val + d.val) :
    (late (score (qs m c) (ks m c) (bs m c) ⟨t.val / 16, by have := step_lt t; omega⟩ ⟨t.val % 16, by omega⟩
        ⟨2 * p.val + d.val / 64, by omega⟩ l)
      fun r => lead (vs m c) ⟨t.val / 16, by have := step_lt t; omega⟩ ⟨256 * (t.val % 16) + r.val, by omega⟩
        ⟨2 * p.val + d.val / 64, by omega⟩ ⟨d.val % 64, by omega⟩) =
    attended m c (((View.whole main_v161).slice (win0_4.rect t)).emb y) := by
  have e : ((View.whole main_v161).slice (win0_4.rect t)).emb y =
      (ix3 ⟨t.val / 16, by have := step_lt t; omega⟩ ⟨256 * (t.val % 16) + l.val, by omega⟩
        ⟨128 * p.val + d.val, by omega⟩ : S16x4096x512.Idx) := by
    have h0 : (y 0).val < 1 := (y 0).isLt
    have i := (idx t).2.2.2.2.1
    refine funext fun a => Fin.ext ?_
    match a with
    | ⟨0, _⟩ =>
      show (((View.whole main_v161).slice (win0_4.rect t)).emb y 0).val = t.val / 16
      blk_simp [i]
    | ⟨1, _⟩ =>
      show (((View.whole main_v161).slice (win0_4.rect t)).emb y 1).val = 256 * (t.val % 16) + l.val
      blk_simp [i]
      omega
    | ⟨2, _⟩ =>
      show (((View.whole main_v161).slice (win0_4.rect t)).emb y 2).val = 128 * p.val + d.val
      blk_simp [i]
      omega
  rw [e]
  have e1 : (256 * (t.val % 16) + l.val) / 256 = t.val % 16 := by omega
  have e2 : (256 * (t.val % 16) + l.val) % 256 = l.val := by omega
  have e3 : (128 * p.val + d.val) / 64 = 2 * p.val + d.val / 64 := by omega
  have e4 : (128 * p.val + d.val) % 64 = d.val % 64 := by omega
  show _ = blocked (qs m c) (ks m c) (vs m c) (bs m c) ⟨t.val / 16, _⟩ ⟨256 * (t.val % 16) + l.val, _⟩
    ⟨(128 * p.val + d.val) / 64, _⟩ ⟨(128 * p.val + d.val) % 64, _⟩
  simp only [blocked, e1, e2, e3, e4]

end

set_option maxHeartbeats 4000000 in
/-- The kernel leaves the weighted sums. -/
theorem final (c : Dev nD) : (dats m 0 c).arrAt 4 cfg0.N = attended m c := by
  refine (dats m 0 c).arrAt_eq_of_covers 4 _ (by decide +kernel) fun t _ y => ?_
  blk_simp
  rw [after0_4]
  unfold outsAt0
  frame_out
  canon_tiles x h
  · open_payloads
    pointwise
    refine (piece (qs m c) (ks m c) (vs m c) (bs m c) ⟨t.val / 16, by have := step_lt t; omega⟩ ⟨t.val % 16, by omega⟩ 3 (x 1) (x 2)
      _ _ _ _ _ _ _ mask_bot mask_eq _ (idx t).2.2.2.2.2 (fun d => ?_) (fun r d => ?_) (fun r => ?_) (fun r => ?_) (fun r => ?_)).trans ?_
    · exact lane_queries m c t 3 (x 1) d _ rfl
    · exact lane_keys m c t 3 r d _ _ _ rfl rfl
    · exact first_bias m c t 3 (x 1) r _ rfl
    · exact second_bias m c t 3 (x 1) r _ rfl
    · exact lane_values m c t 3 r (x 2) _ _ _ rfl rfl
    · exact attended_at m c t 3 (x 1) (x 2) y h1 h2
  · open_payloads
    pointwise
    refine (piece (qs m c) (ks m c) (vs m c) (bs m c) ⟨t.val / 16, by have := step_lt t; omega⟩ ⟨t.val % 16, by omega⟩ 2 (x 1) (x 2)
      _ _ _ _ _ _ _ mask_bot mask_eq _ (idx t).2.2.2.2.2 (fun d => ?_) (fun r d => ?_) (fun r => ?_) (fun r => ?_) (fun r => ?_)).trans ?_
    · exact lane_queries m c t 2 (x 1) d _ rfl
    · exact lane_keys m c t 2 r d _ _ _ rfl rfl
    · exact first_bias m c t 2 (x 1) r _ rfl
    · exact second_bias m c t 2 (x 1) r _ rfl
    · exact lane_values m c t 2 r (x 2) _ _ _ rfl rfl
    · exact attended_at m c t 2 (x 1) (x 2) y h1 h2
  · open_payloads
    pointwise
    refine (piece (qs m c) (ks m c) (vs m c) (bs m c) ⟨t.val / 16, by have := step_lt t; omega⟩ ⟨t.val % 16, by omega⟩ 1 (x 1) (x 2)
      _ _ _ _ _ _ _ mask_bot mask_eq _ (idx t).2.2.2.2.2 (fun d => ?_) (fun r d => ?_) (fun r => ?_) (fun r => ?_) (fun r => ?_)).trans ?_
    · exact lane_queries m c t 1 (x 1) d _ rfl
    · exact lane_keys m c t 1 r d _ _ _ rfl rfl
    · exact first_bias m c t 1 (x 1) r _ rfl
    · exact second_bias m c t 1 (x 1) r _ rfl
    · exact lane_values m c t 1 r (x 2) _ _ _ rfl rfl
    · exact attended_at m c t 1 (x 1) (x 2) y h1 h2
  · open_payloads
    pointwise
    refine (piece (qs m c) (ks m c) (vs m c) (bs m c) ⟨t.val / 16, by have := step_lt t; omega⟩ ⟨t.val % 16, by omega⟩ 0 (x 1) (x 2)
      _ _ _ _ _ _ _ mask_bot mask_eq _ (idx t).2.2.2.2.2 (fun d => ?_) (fun r d => ?_) (fun r => ?_) (fun r => ?_) (fun r => ?_)).trans ?_
    · exact lane_queries m c t 0 (x 1) d _ (by show d.val = 128 * 0 + d.val; omega)
    · exact lane_keys m c t 0 r d _ _ _ rfl (by show _ + d.val = _ + (128 * 0 + d.val); omega)
    · exact first_bias m c t 0 (x 1) r _ rfl
    · exact second_bias m c t 0 (x 1) r _ rfl
    · exact lane_values m c t 0 r (x 2) _ _ _ rfl (by show _ + (x 2).val = _ + (128 * 0 + (x 2).val); omega)
    · exact attended_at m c t 0 (x 1) (x 2) y h1 (by show (y 2).val = 128 * 0 + (x 2).val; omega)

end Cert.AttnIdeal.Value

end
-- ==== Proof.AttnRefAt.lean ====
/-
  The attention reference: its program cut into named steps, and each step read at an index.
-/
module

public import proofs.«01_k».proof.Proof.Gen.AttnRefIdeal.Run
public import Idealize.ShloMosaic.Lib.Pipeline.ValueKit
public import Idealize.ShloMosaic.Lib.Pointwise
public import Idealize.ShloMosaic.Lib.IdealHost
public import Idealize.ShloMosaic.Lib.WordCmp
public import proofs.«01_k».proof.Proof.AttnScores

@[expose] public section

set_option maxRecDepth 16384

noncomputable section

namespace Cert.AttnRefIdeal.Value

open Cert.AttnRefIdeal Cert.AttnRefIdeal.Gen Idealize.ShloMosaic Idealize.ShloMosaic.TcCoe Idealize.SL.Sem Cert.AttnMath

/-- The first padded row of each chunk's window. -/
def start : IVec S64 32 := muli (iotaInDim S64 32 0) (broadcastInDim S64 ![] bcast_S_S64 (constantI S_ 32 64#32))

/-- Where the window of each chunk begins, in all four coordinates. -/
def starts : IVec S64x4 32 :=
  concatenate S64x4 1
    [⟨S64x1, broadcastInDim S64x1 ![] bcast_S_S64x1 (constantI S_ 32 0#32)⟩,
      ⟨S64x1, broadcastInDim S64x1 ![0] bcast_S64_S64x1_0
        (select (cmpi .slt start (broadcastInDim S64 ![] bcast_S_S64 (constantI S_ 32 0#32)))
          (addi start (broadcastInDim S64 ![] bcast_S_S64 (constantI S_ 32 4608#32))) start)⟩,
      ⟨S64x1, broadcastInDim S64x1 ![] bcast_S_S64x1 (constantI S_ 32 0#32)⟩,
      ⟨S64x1, broadcastInDim S64x1 ![] bcast_S_S64x1 (constantI S_ 32 0#32)⟩]
    concatenates_S64x1_S64x1_S64x1_S64x1_S64x4_d1

/-- An array with 512 rows of zeros in front. -/
def padded (x : FVec Ideal S16x4096x8x64 .f32) : FVec Ideal S16x4608x8x64 .f32 :=
  pad S16x4608x8x64 ![0, 512, 0, 0] ![0, 0, 0, 0] ![0, 0, 0, 0] x (sitofp .f32 (constantI S_ 32 0#32))
    pads_S16x4096x8x64_S16x4608x8x64_000_51200_000_000 h_S_

/-- The 576 padded rows that each chunk looks at. -/
def windows (x : FVec Ideal S16x4096x8x64 .f32) : FVec Ideal S64x16x576x8x64 .f32 :=
  Host.gather gather_S16x4608x8x64_S64x4_S64x16x576x8x64_1234_n_n_n_0123_1_16576864 (padded x) starts

/-- Which columns of each window lie past the padding. -/
def valid : IVec S64x576 1 :=
  cmpi .sge
    (addi (broadcastInDim S64x576 ![0, 1] bcast_S64x1_S64x576_0_1 (broadcastInDim S64x1 ![0] bcast_S64_S64x1_0 start))
      (broadcastInDim S64x576 ![0, 1] bcast_S1x576_S64x576_0_1 (broadcastInDim S1x576 ![1] bcast_S576_S1x576_1 (iotaInDim S576 32 0))))
    (broadcastInDim S64x576 ![] bcast_S_S64x576 (constantI S_ 32 512#32))

/-- The scores: scaled products of queries and keys, the bias added, and −∞ at the padding. -/
def scores (q k : FVec Ideal S16x4096x8x64 .f32) (bias : FVec Ideal S8x64x576 .f32) : FVec Ideal S64x16x8x64x576 .f32 :=
  select (broadcastInDim S64x16x8x64x576 ![0, 4] bcast_S64x576_S64x16x8x64x576_0_4 valid)
    (addf
      (mulf
        (Host.dotGeneral dot_S64x16x64x8x64_S64x16x576x8x64_S64x16x8x64x576_4_4_2_2_013_013 none
          (transpose S64x16x64x8x64 [1, 0, 2, 3, 4] (shapeCast _ q shapeCasts_S16x4096x8x64_S16x64x64x8x64)
            transposes_S16x64x64x8x64_S64x16x64x8x64_1_0_2_3_4) (windows k))
        (broadcastInDim S64x16x8x64x576 ![] bcast_S_S64x16x8x64x576 (constant S_ .f32 0x3E000000#32)))
      (broadcastInDim S64x16x8x64x576 ![0, 1, 2, 3, 4] bcast_S1x1x8x64x576_S64x16x8x64x576_0_1_2_3_4
        (broadcastInDim S1x1x8x64x576 ![1, 2, 3, 4] bcast_S1x8x64x576_S1x1x8x64x576_1_2_3_4
          (broadcastInDim S1x8x64x576 ![1, 2, 3] bcast_S8x64x576_S1x8x64x576_1_2_3 bias))))
    (broadcastInDim S64x16x8x64x576 ![1, 2, 3, 4] bcast_S16x8x64x576_S64x16x8x64x576_1_2_3_4
      (broadcastInDim S16x8x64x576 ![] bcast_S_S16x8x64x576 (id (constant S_ .f32 0xFF800000#32))))

/-- Where in the table each position's bias lies: the distance between query and key, at most 128 either way, plus 128. -/
def slots : IVec S64x576 32 :=
  addi
    (minsi (broadcastInDim S64x576 ![] bcast_S_S64x576 (id (constantI S_ 32 128#32)))
      (maxsi (broadcastInDim S64x576 ![] bcast_S_S64x576 (id (constantI S_ 32 4294967168#32)))
        (subi
          (broadcastInDim S64x576 ![0, 1] bcast_S64x1_S64x576_0_1
            (addi (broadcastInDim S64x1 ![0] bcast_S64_S64x1_0 (iotaInDim S64 32 0))
              (broadcastInDim S64x1 ![] bcast_S_S64x1 (constantI S_ 32 512#32))))
          (broadcastInDim S64x576 ![0, 1] bcast_S1x576_S64x576_0_1
            (broadcastInDim S1x576 ![1] bcast_S576_S1x576_1 (iotaInDim S576 32 0))))))
    (broadcastInDim S64x576 ![] bcast_S_S64x576 (constantI S_ 32 128#32))

/-- These places as the gather takes them: a negative one would count from the table's end. -/
def places : IVec S64x576x1 32 :=
  broadcastInDim S64x576x1 ![0, 1] bcast_S64x576_S64x576x1_0_1
    (select (cmpi .slt slots (broadcastInDim S64x576 ![] bcast_S_S64x576 (constantI S_ 32 0#32)))
      (addi slots (broadcastInDim S64x576 ![] bcast_S_S64x576 (constantI S_ 32 257#32))) slots)

/-- The bias of each head, query and key: the table's row at the place, the heads in front. -/
def relative (t : FVec Ideal S257x8 .f32) : FVec Ideal S8x64x576 .f32 :=
  transpose S8x64x576 [2, 0, 1] (Host.gather gather_S257x8_S64x576x1_S64x576x8_2_0_n_n_0_2_18 t places)
    transposes_S64x576x8_S8x64x576_2_0_1

/-- The exponentials of the scores, each less its row's greatest. -/
def weights (s : FVec Ideal S64x16x8x64x576 .f32) : FVec Ideal S64x16x8x64x576 .f32 :=
  Host.exp (subf s (broadcastInDim S64x16x8x64x576 ![0, 1, 2, 3, 4] bcast_S64x16x8x64x1_S64x16x8x64x576_0_1_2_3_4
    (broadcastInDim S64x16x8x64x1 ![0, 1, 2, 3] bcast_S64x16x8x64_S64x16x8x64x1_0_1_2_3
      (maximumf (broadcastInDim S64x16x8x64 ![] bcast_S_S64x16x8x64 (constant S_ .f32 0xFF800000#32))
        (Host.reduce FloatOps.maximumf s (constant S_ .f32 0xFF800000#32) reducesTo_S64x16x8x64x576_S64x16x8x64_d4 h_S_)))))

/-- The weights over their row's sum. -/
def normalised (w : FVec Ideal S64x16x8x64x576 .f32) : FVec Ideal S64x16x8x64x576 .f32 :=
  Host.divf w (broadcastInDim S64x16x8x64x576 ![0, 1, 2, 3, 4] bcast_S64x16x8x64x1_S64x16x8x64x576_0_1_2_3_4
    (broadcastInDim S64x16x8x64x1 ![0, 1, 2, 3] bcast_S64x16x8x64_S64x16x8x64x1_0_1_2_3
      (Host.reduceAdd w (constant S_ .f32 0x00000000#32) reducesTo_S64x16x8x64x576_S64x16x8x64_d4 h_S_)))

/-- The sums of the values by these weights, heads side by side. -/
def out (v : FVec Ideal S16x4096x8x64 .f32) (p : FVec Ideal S64x16x8x64x576 .f32) : FVec Ideal S16x4096x512 .bf16 :=
  truncf .bf16 (shapeCast _ (transpose S16x64x64x8x64 [1, 0, 2, 3, 4] (transpose S64x16x64x8x64 [0, 1, 4, 2, 3]
    (Host.dotGeneral dot_S64x16x576x8x64_S64x16x8x64x576_S64x16x8x64x64_2_4_4_3_013_012 none (windows v) p)
    transposes_S64x16x8x64x64_S64x16x64x8x64_0_1_4_2_3) transposes_S64x16x64x8x64_S16x64x64x8x64_1_0_2_3_4)
    shapeCasts_S16x64x64x8x64_S16x4096x512) bitsLt_bf16_f32

/-- The dimension numbers of the gathers. -/
abbrev window_dims := gather_S16x4608x8x64_S64x4_S64x16x576x8x64_1234_n_n_n_0123_1_16576864

variable (m : (ℓ : Loc nD τ sig) → Buf (Elt Ideal) ℓ)

/-- The program's result is these steps in order. -/
theorem result_eq (c : Dev nD) : res_main_v80 m c = out (m ((c : Thread nD τ).loc main_arg2))
    (normalised (weights (scores (m ((c : Thread nD τ).loc main_arg0)) (m ((c : Thread nD τ).loc main_arg1)) (relative (m ((c : Thread nD τ).loc main_arg3)))))) := rfl

/-- An integer zero converted is zero. -/
theorem zero_word : (FloatOps.sitofp .f32 (0#32 : BitVec 32) : Ideal .f32) = (0 : EReal) := by
  show (((0#32 : BitVec 32).toInt : ℝ) : EReal) = 0
  simp

/-- The first row at a chunk. -/
theorem start_at (c : Fin 64) : start (ix1 c) = BitVec.ofNat 32 (64 * c.val) := by
  unfold start
  pointwise
  revert c
  decide

/-- The row coordinate of the window's beginning. -/
theorem starts_at (c : Fin 64) : starts (ix2 c 1) = BitVec.ofNat 32 (64 * c.val) := by
  unfold starts
  pointwise
  rw [start_at]
  revert c
  decide

/-- The padded array at an index. -/
theorem padded_at (x : FVec Ideal S16x4096x8x64 .f32) (b : Fin 16) (n : Fin 4608) (h : Fin 8) (d : Fin 64) :
    padded x (ix4 b n h d) = if hn : 512 ≤ n.val then x (ix4 b ⟨n.val - 512, by omega⟩ h d) else 0 := by
  unfold padded
  pointwise
  by_cases hn : 512 ≤ n.val
  · have h2 : 512 ≤ n.val ∧ n.val - 512 < 4096 := ⟨hn, by omega⟩
    rw [dif_pos hn, dif_pos h2]
  · have h2 : ¬(512 ≤ n.val ∧ n.val - 512 < 4096) := fun h => hn h.1
    rw [dif_neg hn, dif_neg h2]
    exact zero_word

/-- The mask at an index. -/
theorem valid_at (c : Fin 64) (k : Fin 576) : valid (ix2 c k) = if 512 ≤ 64 * c.val + k.val then 1#1 else 0#1 := by
  unfold valid
  pointwise
  rw [start_at]
  have e : IntOp.addi (BitVec.ofNat 32 (64 * c.val)) (BitVec.ofNat 32 k.val) = BitVec.ofNat 32 (64 * c.val + k.val) :=
    (BitVec.ofNat_add _ _).symm
  rw [e, WordCmp.cmpi_sge_ofNat (by omega) (by omega)]
  by_cases h : 512 ≤ 64 * c.val + k.val
  · rw [if_pos h, decide_eq_true h]; rfl
  · rw [if_neg h, decide_eq_false h]; rfl

/-- The scores at an index. -/
theorem scores_at (q k : FVec Ideal S16x4096x8x64 .f32) (bias : FVec Ideal S8x64x576 .f32) (c : Fin 64) (b : Fin 16) (h : Fin 8)
    (l : Fin 64) (j : Fin 576) : scores q k bias (ix5 c b h l j) = if 512 ≤ 64 * c.val + j.val then
      (∑ d, q (ix4 b ⟨c.val * 64 + l.val, by omega⟩ h d) * windows k (ix5 c b j h d)) * scale + bias (ix3 h l j)
      else ⊥ := by
  unfold scores
  pointwise
  rw [valid_at]
  by_cases h : 512 ≤ 64 * c.val + j.val
  · rw [if_pos h, if_pos h]; rfl
  · rw [if_neg h, if_neg h]; exact mask_eq

/-- The exponentials at an index, for any array of greatest scores. -/
theorem exp_at (s : FVec Ideal S64x16x8x64x576 .f32) (z : FVec Ideal S64x16x8x64 .f32) (c : Fin 64) (b : Fin 16) (h : Fin 8)
    (l : Fin 64) (j : Fin 576) :
    Host.exp (subf s (broadcastInDim S64x16x8x64x576 ![0, 1, 2, 3, 4] bcast_S64x16x8x64x1_S64x16x8x64x576_0_1_2_3_4
      (broadcastInDim S64x16x8x64x1 ![0, 1, 2, 3] bcast_S64x16x8x64_S64x16x8x64x1_0_1_2_3
        (maximumf (broadcastInDim S64x16x8x64 ![] bcast_S_S64x16x8x64 (constant S_ .f32 0xFF800000#32)) z)))) (ix5 c b h l j)
      = Ideal.exp (s (ix5 c b h l j) - z (ix4 c b h l)) := by
  pointwise
  rw [mask_eq, max_eq_right bot_le]

/-- A row's greatest score as a fold. -/
theorem max_at (s : FVec Ideal S64x16x8x64x576 .f32) (c : Fin 64) (b : Fin 16) (h : Fin 8) (l : Fin 64) :
    Host.reduce FloatOps.maximumf s (constant S_ .f32 0xFF800000#32) reducesTo_S64x16x8x64x576_S64x16x8x64_d4 h_S_ (ix4 c b h l)
      = (Finset.univ : Finset (Fin 576)).fold (FloatOps.maximumf : Ideal .f32 → Ideal .f32 → Ideal .f32)
          (Ideal.ofBits .f32 0xFF800000#32) fun x => s (ix5 c b h l x) := by
  rw [Host.reduce_eq_fold]
  exact Shape.ReducesTo.fold_fiber_r5_a4 _ (ix4 c b h l) _ _ s

/-- The fold from −∞ is the greatest score. -/
theorem fold_at (f : Fin 576 → EReal) :
    (Finset.univ : Finset (Fin 576)).fold (FloatOps.maximumf : Ideal .f32 → Ideal .f32 → Ideal .f32) (Ideal.ofBits .f32 0xFF800000#32) f
      = top f := by
  rw [mask_eq]
  rfl

/-- The weights at an index. -/
theorem weights_at (s : FVec Ideal S64x16x8x64x576 .f32) (c : Fin 64) (b : Fin 16) (h : Fin 8)
    (l : Fin 64) (j : Fin 576) : weights s (ix5 c b h l j) = Ideal.exp (s (ix5 c b h l j) - top fun x => s (ix5 c b h l x)) := by
  unfold weights
  rw [exp_at, max_at, fold_at]

/-- A sum over the last axis at an index. -/
theorem sum_at (w : FVec Ideal S64x16x8x64x576 .f32) (z : EReal) (c : Fin 64) (b : Fin 16) (h : Fin 8) (l : Fin 64) :
    Ideal.hostReduceAdd reducesTo_S64x16x8x64x576_S64x16x8x64_d4 w z (ix4 c b h l) = z + ∑ x, w (ix5 c b h l x) :=
  Ideal.hostReduceAdd_r5_a4 _ w z (ix4 c b h l)

/-- A row's sum. -/
theorem sum_zero_at (w : FVec Ideal S64x16x8x64x576 .f32) (c : Fin 64) (b : Fin 16) (h : Fin 8) (l : Fin 64) :
    Host.reduceAdd w (constant S_ .f32 0x00000000#32) reducesTo_S64x16x8x64x576_S64x16x8x64_d4 h_S_ (ix4 c b h l)
      = ∑ x, w (ix5 c b h l x) := by
  rw [ValueIdx.hostReduceAdd_apply, sum_at]
  exact (congrArg (· + _) Ideal.ofBits_zero_f32).trans (zero_add _)

/-- The quotient at an index, for any array of sums. -/
theorem div_at (w : FVec Ideal S64x16x8x64x576 .f32) (z : FVec Ideal S64x16x8x64 .f32) (c : Fin 64) (b : Fin 16) (h : Fin 8)
    (l : Fin 64) (j : Fin 576) :
    Host.divf w (broadcastInDim S64x16x8x64x576 ![0, 1, 2, 3, 4] bcast_S64x16x8x64x1_S64x16x8x64x576_0_1_2_3_4
      (broadcastInDim S64x16x8x64x1 ![0, 1, 2, 3] bcast_S64x16x8x64_S64x16x8x64x1_0_1_2_3 z)) (ix5 c b h l j)
      = Ideal.div (w (ix5 c b h l j)) (z (ix4 c b h l)) := by
  pointwise

/-- The normalised weights at an index. -/
theorem normalised_at (w : FVec Ideal S64x16x8x64x576 .f32) (c : Fin 64) (b : Fin 16) (h : Fin 8)
    (l : Fin 64) (j : Fin 576) : normalised w (ix5 c b h l j) = Ideal.div (w (ix5 c b h l j)) (∑ x, w (ix5 c b h l x)) := by
  unfold normalised
  rw [div_at, sum_zero_at]

/-- The result at an index. -/
theorem out_at (v : FVec Ideal S16x4096x8x64 .f32) (p : FVec Ideal S64x16x8x64x576 .f32) (b : Fin 16) (s : Fin 4096) (j : Fin 512) :
    out v p (ix3 b s j) = ∑ k : Fin 576, windows v (ix5 ⟨s.val / 64, by omega⟩ b k ⟨j.val / 64, by omega⟩ ⟨j.val % 64, by omega⟩)
      * p (ix5 ⟨s.val / 64, by omega⟩ b ⟨j.val / 64, by omega⟩ ⟨s.val % 64, by omega⟩ k) := by
  unfold out
  pointwise

/-- A chunk's first row as a number. -/
theorem word_at : ∀ c : Fin 64, (BitVec.ofNat 32 (64 * c.val)).toInt.toNat = 64 * c.val := by decide

/-- The window at an index is a padded row. -/
theorem windows_at (x : FVec Ideal S16x4096x8x64 .f32) (c : Fin 64) (b : Fin 16) (k : Fin 576) (h : Fin 8) (d : Fin 64) :
    windows x (ix5 c b k h d) = padded x (ix4 b ⟨64 * c.val + k.val, by omega⟩ h d) := by
  unfold windows Host.gather
  refine congrArg (padded x) (funext fun a => Fin.ext ?_)
  show window_dims.start _ starts a
    + window_dims.batchCoord _ a
    + window_dims.offCoord _ a = _
  match a with
  | ⟨0, _⟩ =>
    have h1 : window_dims.start (ix5 c b k h d) starts 0 ≤ 0 := GatherDims.start_le _ _ _ _
    have h2 : window_dims.offCoord (ix5 c b k h d) 0 = b.val := rfl
    have h3 : window_dims.batchCoord (ix5 c b k h d) 0 = 0 := rfl
    show window_dims.start (ix5 c b k h d) starts 0 + window_dims.batchCoord (ix5 c b k h d) 0 + window_dims.offCoord (ix5 c b k h d) 0 = b.val
    omega
  | ⟨1, _⟩ =>
    have h1 : window_dims.start (ix5 c b k h d) starts 1 = min (starts (ix2 c 1)).toInt.toNat (4608 - 576) := by
      unfold GatherDims.start
      rw [dif_pos (show (1 : Fin 4) ∈ window_dims.startIndexMap from by decide)]
      have hi : window_dims.siIdx (ix5 c b k h d) ⟨List.idxOf (1 : Fin 4) window_dims.startIndexMap, by decide⟩ = ix2 c 1 := by
        funext z
        refine Fin.ext ?_
        match z with
        | ⟨0, _⟩ => rfl
        | ⟨1, _⟩ => rfl
      exact congrArg (fun i => min (starts i).toInt.toNat (4608 - 576)) hi
    have h2 : window_dims.offCoord (ix5 c b k h d) 1 = k.val := rfl
    have h3 : window_dims.batchCoord (ix5 c b k h d) 1 = 0 := rfl
    have h4 : (starts (ix2 c 1)).toInt.toNat = 64 * c.val := by
      rw [starts_at]
      exact word_at c
    show window_dims.start (ix5 c b k h d) starts 1 + window_dims.batchCoord (ix5 c b k h d) 1 + window_dims.offCoord (ix5 c b k h d) 1 = 64 * c.val + k.val
    omega
  | ⟨2, _⟩ =>
    have h1 : window_dims.start (ix5 c b k h d) starts 2 ≤ 0 := GatherDims.start_le _ _ _ _
    have h2 : window_dims.offCoord (ix5 c b k h d) 2 = h.val := rfl
    have h3 : window_dims.batchCoord (ix5 c b k h d) 2 = 0 := rfl
    show window_dims.start (ix5 c b k h d) starts 2 + window_dims.batchCoord (ix5 c b k h d) 2 + window_dims.offCoord (ix5 c b k h d) 2 = h.val
    omega
  | ⟨3, _⟩ =>
    have h1 : window_dims.start (ix5 c b k h d) starts 3 ≤ 0 := GatherDims.start_le _ _ _ _
    have h2 : window_dims.offCoord (ix5 c b k h d) 3 = d.val := rfl
    have h3 : window_dims.batchCoord (ix5 c b k h d) 3 = 0 := rfl
    show window_dims.start (ix5 c b k h d) starts 3 + window_dims.batchCoord (ix5 c b k h d) 3 + window_dims.offCoord (ix5 c b k h d) 3 = d.val
    omega

/-- The dimension numbers of the table's gather. -/
abbrev table_dims := gather_S257x8_S64x576x1_S64x576x8_2_0_n_n_0_2_18

set_option maxHeartbeats 4000000 in
/-- A place as a number. -/
theorem place_word : ∀ (l : Fin 64) (j : Fin 576), (Scalar.select (IntOp.cmpi .slt
      (IntOp.addi (IntOp.minsi 128#32 (IntOp.maxsi 4294967168#32 (IntOp.subi (IntOp.addi (BitVec.ofNat 32 l.val) 512#32) (BitVec.ofNat 32 j.val)))) 128#32) 0#32)
      (IntOp.addi (IntOp.addi (IntOp.minsi 128#32 (IntOp.maxsi 4294967168#32 (IntOp.subi (IntOp.addi (BitVec.ofNat 32 l.val) 512#32) (BitVec.ofNat 32 j.val)))) 128#32) 257#32)
      (IntOp.addi (IntOp.minsi 128#32 (IntOp.maxsi 4294967168#32 (IntOp.subi (IntOp.addi (BitVec.ofNat 32 l.val) 512#32) (BitVec.ofNat 32 j.val)))) 128#32)).toInt.toNat
      = min (640 + l.val - j.val) 256 := by
  decide +kernel

/-- The place of a query and a key. -/
theorem places_at (l : Fin 64) (j : Fin 576) : (places (ix3 l j 0)).toInt.toNat = min (640 + l.val - j.val) 256 := by
  refine Eq.trans (congrArg (fun z : BitVec 32 => z.toInt.toNat) ?_) (place_word l j)
  unfold places slots
  pointwise
  rfl

/-- The bias at an index is an entry of the table. -/
theorem relative_at (t : FVec Ideal S257x8 .f32) (h : Fin 8) (l : Fin 64) (j : Fin 576) :
    relative t (ix3 h l j) = t (ix2 ⟨min (640 + l.val - j.val) 256, by omega⟩ h) := by
  have e : relative t (ix3 h l j) = Host.gather table_dims t places (ix3 l j h) := by
    unfold relative
    pointwise
  rw [e]
  unfold Host.gather
  refine congrArg t (funext fun a => Fin.ext ?_)
  show table_dims.start _ places a + table_dims.batchCoord _ a + table_dims.offCoord _ a = _
  match a with
  | ⟨0, _⟩ =>
    have h1 : table_dims.start (ix3 l j h) places 0 = min (places (ix3 l j 0)).toInt.toNat (257 - 1) := by
      unfold GatherDims.start
      rw [dif_pos (show (0 : Fin 2) ∈ table_dims.startIndexMap from by decide)]
      have hi : table_dims.siIdx (ix3 l j h) ⟨List.idxOf (0 : Fin 2) table_dims.startIndexMap, by decide⟩ = ix3 l j 0 := by
        funext z
        refine Fin.ext ?_
        match z with
        | ⟨0, _⟩ => rfl
        | ⟨1, _⟩ => rfl
        | ⟨2, _⟩ => rfl
      exact congrArg (fun i => min (places i).toInt.toNat (257 - 1)) hi
    have h2 : table_dims.offCoord (ix3 l j h) 0 = 0 := rfl
    have h3 : table_dims.batchCoord (ix3 l j h) 0 = 0 := rfl
    have h4 := places_at l j
    show table_dims.start (ix3 l j h) places 0 + table_dims.batchCoord (ix3 l j h) 0 + table_dims.offCoord (ix3 l j h) 0 = min (640 + l.val - j.val) 256
    omega
  | ⟨1, _⟩ =>
    have h1 : table_dims.start (ix3 l j h) places 1 ≤ 0 := GatherDims.start_le _ _ _ _
    have h2 : table_dims.offCoord (ix3 l j h) 1 = h.val := rfl
    have h3 : table_dims.batchCoord (ix3 l j h) 1 = 0 := rfl
    show table_dims.start (ix3 l j h) places 1 + table_dims.batchCoord (ix3 l j h) 1 + table_dims.offCoord (ix3 l j h) 1 = h.val
    omega

/-- The program's result at an index: the plain weighted sum. -/
theorem result_at (q k v : FVec Ideal S16x4096x8x64 .f32) (e : FVec Ideal S8x64x576 .f32) (b : Fin 16) (s : Fin 4096) (j : Fin 512) :
    (out v (normalised (weights (scores q k e))) (ix3 b s j) : EReal) =
      soft (plain (fun b s h d => q (ix4 b s h d)) (fun b s h d => k (ix4 b s h d)) (fun h l j => e (ix3 h l j))
          ⟨s.val / 64, by omega⟩ b ⟨j.val / 64, by omega⟩ ⟨s.val % 64, by omega⟩)
        fun r => lead (fun b s h d => v (ix4 b s h d)) b ⟨64 * (s.val / 64) + r.val, by omega⟩ ⟨j.val / 64, by omega⟩ ⟨j.val % 64, by omega⟩ := by
  have hw : ∀ (x : FVec Ideal S16x4096x8x64 .f32) (c : Fin 64) (r : Fin 576) (h : Fin 8) (d : Fin 64),
      (windows x (ix5 c b r h d) : EReal) = lead (fun b s h d => x (ix4 b s h d)) b ⟨64 * c.val + r.val, by omega⟩ h d :=
    fun x c r h d => (windows_at x c b r h d).trans (padded_at x b _ h d)
  have hs : ∀ (c : Fin 64) (h : Fin 8) (l : Fin 64) (r : Fin 576), (scores q k e (ix5 c b h l r) : EReal) =
      plain (fun b s h d => q (ix4 b s h d)) (fun b s h d => k (ix4 b s h d)) (fun h l j => e (ix3 h l j)) c b h l r := fun c h l r => by
    rw [scores_at, plain]
    simp only [hw]
  rw [out_at]
  simp only [normalised_at, weights_at, hs, hw]

end Cert.AttnRefIdeal.Value

end
-- ==== Proof.AttnTie.lean ====
/-
  The attention: kernel and reference end with the same array where queries, keys and table are finite.
-/
module

public import proofs.«01_k».proof.Defs
public import proofs.«01_k».proof.Proof.Gen.Pre_finite_scores
public import proofs.«01_k».proof.Proof.AttnValue
public import proofs.«01_k».proof.Proof.AttnRefAt
public import Idealize.ShloMosaic.Lib.ReduceAll
public import Idealize.ShloMosaic.Lib.Affine

@[expose] public section

set_option maxRecDepth 16384

noncomputable section

namespace Cert.Proof

open Idealize.ShloMosaic Idealize.SL.Sem Cert.AttnMath

/-- A number whose absolute value is found below +∞ is real. -/
theorem real_of_below (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  refine ⟨fun hb => ?_, fun ht => ?_⟩
  · subst hb; simp at hlt
  · subst ht; simp at hlt

/-- What the precondition says of the three arrays. -/
theorem finite_arrays (q k v : FVec Ideal Cert.Pre_finite_scores.S16x4096x8x64 .f32) (e : FVec Ideal Cert.Pre_finite_scores.S257x8 .f32)
    (h : Cert.Pre_finite_scores.fn (F := Ideal) q k v e = fun _ => 1#1) :
    (∀ i, IsReal (q i)) ∧ (∀ i, IsReal (k i)) ∧ ∀ i, IsReal (e i) := by
  have h0 := congrFun h (fun a => a.elim0)
  dsimp only [Cert.Pre_finite_scores.fn] at h0
  haveI : Subsingleton Cert.Pre_finite_scores.S_.Idx := ⟨fun a b => funext fun i => i.elim0⟩
  have h1 := IntOp.andi_eq_one.1 h0
  have h2 := IntOp.andi_eq_one.1 h1.1
  exact ⟨fun i => real_of_below _ (Host.reduce_andi_all _ _ _ _ _ h2.1 i), fun i => real_of_below _ (Host.reduce_andi_all _ _ _ _ _ h2.2 i),
    fun i => real_of_below _ (Host.reduce_andi_all _ _ _ _ _ h1.2 i)⟩

/-- The reference's result is the blocked program's, where queries, keys and table are real. -/
theorem outcome_same (q k v : FVec Ideal Cert.AttnRefIdeal.S16x4096x8x64 .f32) (e : FVec Ideal Cert.AttnRefIdeal.S257x8 .f32)
    (hq : ∀ i, IsReal (q i)) (hk : ∀ i, IsReal (k i)) (he : ∀ i, IsReal (e i)) :
    Cert.AttnRefIdeal.Value.out v (Cert.AttnRefIdeal.Value.normalised (Cert.AttnRefIdeal.Value.weights (Cert.AttnRefIdeal.Value.scores q k (Cert.AttnRefIdeal.Value.relative e)))) =
      fun i : Cert.AttnRefIdeal.S16x4096x512.Idx => (blocked (fun b s h d => q (ix4 b s h d)) (fun b s h d => k (ix4 b s h d))
        (fun b s h d => v (ix4 b s h d)) (fun h l j => e (ix2 (⟨min (640 + l.val - j.val) 256, by omega⟩ : Fin 257) h)) (i 0) (i 1)
        ⟨(i 2).val / 64, by have := (i 2).isLt; change _ < 512 at this; omega⟩ ⟨(i 2).val % 64, by omega⟩ : EReal) := by
  funext i
  have hi : i = ix3 (i 0) (i 1) (i 2) := by
    refine funext fun a => ?_
    match a with
    | ⟨0, _⟩ => rfl
    | ⟨1, _⟩ => rfl
    | ⟨2, _⟩ => rfl
  refine (congrArg _ hi).trans ((Cert.AttnRefIdeal.Value.result_at q k v (Cert.AttnRefIdeal.Value.relative e) (i 0) (i 1) (i 2)).trans ?_)
  rw [show (fun h l j => (Cert.AttnRefIdeal.Value.relative e (ix3 h l j) : EReal)) =
      fun h l j => (e (ix2 (⟨min (640 + l.val - j.val) 256, by omega⟩ : Fin 257) h) : EReal) from
    funext fun h => funext fun l => funext fun j => Cert.AttnRefIdeal.Value.relative_at e h l j]
  exact (blocked_eq _ _ _ _ (fun _ _ _ _ => hq _) (fun _ _ _ _ => hk _) (fun _ _ _ => he _) (i 0) (i 1) _ _).symm

/-- From the same queries, keys, values and table the kernel and the reference end with the same array. -/
theorem attn_same : Cert.algebraic_AttnIdeal_AttnRefIdeal_pre_finite_scores (hAttnIdeal := Cert.AttnIdeal.Gen.facts)
    (hAttnRefIdeal := Cert.AttnRefIdeal.Gen.facts) (hPre_finite_scores := Cert.Pre_finite_scores.Gen.facts) := by
  pair_intro
  · run_from Cert.AttnIdeal.Value.run_blocks m g
  · run_from Cert.AttnRefIdeal.Value.run m' g'
    refine (Cert.AttnRefIdeal.Value.result_eq m' c).trans (Eq.trans ?_ (Cert.AttnIdeal.Value.final m c).symm)
    rw [(hagree c).1, (hagree c).2.1, (hagree c).2.2.1, (hagree c).2.2.2]
    obtain ⟨hq, hk, he⟩ := finite_arrays _ _ _ _ (hpre c)
    exact outcome_same _ _ _ _ hq hk he

end Cert.Proof

end
-- ==== Proof.ProjValue.lean ====
/-
  The input projection: one block of 256 token rows per grid point.  Each of the eleven result arrays is one column
  range of (the normalised token times the weight matrix, plus the bias), element by element.
-/
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- One column of the projection of one token: the token `x` divided by its root mean square and scaled by the gain `g`,
    against the weight column `w`, plus the bias `b`. -/
def column (x g w : Fin 1024 → EReal) (b : EReal) : EReal :=
  (∑ k, x k * Ideal.rsqrt (Ideal.div (∑ i, x i * x i) (Ideal.ofBits .f32 0x44800000#32) + Ideal.ofBits .f32 0x358637BD#32) * g k * w k) + b

/-- The reference's projection of all tokens onto all 5640 columns. -/
def full (x : FVec Ideal Cert.ProjRefIdeal.S16x4096x1024 .f32) (g : FVec Ideal Cert.ProjRefIdeal.S1024 .f32)
    (w : FVec Ideal Cert.ProjRefIdeal.S1024x5640 .f32) (b : FVec Ideal Cert.ProjRefIdeal.S5640 .f32) :
    FVec Ideal Cert.ProjRefIdeal.S16x4096x5640 .f32 :=
  open Cert.ProjRefIdeal Cert.ProjRefIdeal.Gen in
  addf (Host.dotGeneral dot_S16x4096x1024_S1024x5640_S16x4096x5640_2_0_01_1_n_n none
    (mulf (mulf x (broadcastInDim S16x4096x1024 ![0, 1, 2] bcast_S16x4096x1_S16x4096x1024_0_1_2
        (Host.rsqrt (addf (Host.divf (broadcastInDim S16x4096x1 ![0, 1] bcast_S16x4096_S16x4096x1_0_1
            (Host.reduceAdd (mulf x x) (constant S_ .f32 0x00000000#32) reducesTo_S16x4096x1024_S16x4096_d2 Cert.ProjRefIdeal.Gen.h_S_))
          (broadcastInDim S16x4096x1 ![] bcast_S_S16x4096x1 (constant S_ .f32 0x44800000#32)))
          (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g))) w)
    (broadcastInDim S16x4096x5640 ![0, 1, 2] bcast_S1x1x5640_S16x4096x5640_0_1_2 (broadcastInDim S1x1x5640 ![2] bcast_S5640_S1x1x5640_2 b))

/-- The reference's projection at one token and column. -/
theorem full_at (x : FVec Ideal Cert.ProjRefIdeal.S16x4096x1024 .f32) (g : FVec Ideal Cert.ProjRefIdeal.S1024 .f32)
    (w : FVec Ideal Cert.ProjRefIdeal.S1024x5640 .f32) (b : FVec Ideal Cert.ProjRefIdeal.S5640 .f32)
    (p : Fin 16) (s : Fin 4096) (j : Fin 5640) :
    full x g w b (ix3 p s j) = column (fun k => x (ix3 p s k)) (fun k => g (ix1 k)) (fun k => w (ix2 k j)) (b (ix1 j)) := by
  unfold full column
  pointwise

/-- Where each window's block sits: token rows at block row `t`, the rest whole. -/
theorem idx : ∀ t : Fin cfg0.N, win0_0.index t = ![t.val, 0] ∧ win0_1.index t = ![0, 0] ∧ win0_2.index t = ![0, 0]
    ∧ win0_3.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] :=
  (by decide +kernel : ∀ t : Fin grid0.N, _)

/-- The token rows as the kernel takes them. -/
theorem entry_rows (c : Dev nD) (r : Fin 65536) (k : Fin 1024) :
    V m c main_v19 (ix2 r k) = m ((c : Thread nD τ).loc main_arg0)
      (ix3 (⟨r.val / 4096, by omega⟩ : Fin 16) (⟨r.val % 4096, by omega⟩ : Fin 4096) k) := by
  simp only [V, hostOps0, hostOps0_1, hostOps0_2, hostOps0_3, hostOps0_4, hostOps0_5, hostOps0_6, List.flatten_cons,
    List.flatten_nil, List.append_nil, List.cons_append, List.nil_append]
  entry_read
  pointwise

/-- The gain row. -/
theorem entry_gain (c : Dev nD) (k : Fin 1024) :
    V m c main_v20 (ix2 0 k) = m ((c : Thread nD τ).loc main_arg1) (ix1 k) := by
  simp only [V, hostOps0, hostOps0_1, hostOps0_2, hostOps0_3, hostOps0_4, hostOps0_5, hostOps0_6, List.flatten_cons,
    List.flatten_nil, List.append_nil, List.cons_append, List.nil_append]
  entry_read
  pointwise

/-- The weights with the eight gate columns taken out. -/
theorem entry_weight (c : Dev nD) (k : Fin 1024) (j : Fin 5632) :
    V m c main_v3 (ix2 k j) = m ((c : Thread nD τ).loc main_arg2)
      (ix2 k (⟨if j.val < 3584 then j.val else j.val + 8, by split <;> omega⟩ : Fin 5640)) := by
  simp only [V, hostOps0, hostOps0_1, hostOps0_2, hostOps0_3, hostOps0_4, hostOps0_5, hostOps0_6, List.flatten_cons,
    List.flatten_nil, List.append_nil, List.cons_append, List.nil_append]
  entry_read
  pointwise
  by_cases h : j.val < 3584
  · refine (dif_pos h).trans ?_
    have e : (⟨j.val, by omega⟩ : Fin 5640) = ⟨if j.val < 3584 then j.val else j.val + 8, by split <;> omega⟩ :=
      Fin.ext (if_pos h).symm
    exact congrArg (fun q => m ((c : Thread nD τ).loc main_arg2) (ix2 k q)) e
  · refine (dif_neg h).trans ?_
    have e : (⟨3592 + (j.val - 3584), by omega⟩ : Fin 5640) = ⟨if j.val < 3584 then j.val else j.val + 8, by split <;> omega⟩ :=
      Fin.ext ((by omega : 3592 + (j.val - 3584) = j.val + 8).trans (if_neg h).symm)
    exact congrArg (fun q => m ((c : Thread nD τ).loc main_arg2) (ix2 k q)) e

/-- The bias with the eight gate columns taken out. -/
theorem entry_bias (c : Dev nD) (j : Fin 5632) :
    V m c main_v7 (ix2 0 j) = m ((c : Thread nD τ).loc main_arg3)
      (ix1 (⟨if j.val < 3584 then j.val else j.val + 8, by split <;> omega⟩ : Fin 5640)) := by
  simp only [V, hostOps0, hostOps0_1, hostOps0_2, hostOps0_3, hostOps0_4, hostOps0_5, hostOps0_6, List.flatten_cons,
    List.flatten_nil, List.append_nil, List.cons_append, List.nil_append]
  entry_read
  pointwise
  by_cases h : j.val < 3584
  · refine (dif_pos h).trans ?_
    have e : (⟨j.val, by omega⟩ : Fin 5640) = ⟨if j.val < 3584 then j.val else j.val + 8, by split <;> omega⟩ :=
      Fin.ext (if_pos h).symm
    exact congrArg (fun q => m ((c : Thread nD τ).loc main_arg3) (ix1 q)) e
  · refine (dif_neg h).trans ?_
    have e : (⟨3592 + (j.val - 3584), by omega⟩ : Fin 5640) = ⟨if j.val < 3584 then j.val else j.val + 8, by split <;> omega⟩ :=
      Fin.ext ((by omega : 3592 + (j.val - 3584) = j.val + 8).trans (if_neg h).symm)
    exact congrArg (fun q => m ((c : Thread nD τ).loc main_arg3) (ix1 q)) e

/-- The token that row `r` of block row `t` holds: its sequence. -/
def seq (t : Fin cfg0.N) (r : Fin 256) : Fin 16 := ⟨(t.val * 256 + r.val) / 4096, by have := t.isLt; have : cfg0.N = 256 := rfl; omega⟩

/-- The token that row `r` of block row `t` holds: its position. -/
def pos (t : Fin cfg0.N) (r : Fin 256) : Fin 4096 := ⟨(t.val * 256 + r.val) % 4096, by omega⟩

/-- The column of the full weight matrix that column `j` of the kernel's copy is. -/
def col (j : Fin 5632) : Fin 5640 := ⟨if j.val < 3584 then j.val else j.val + 8, by split <;> omega⟩

theorem rows_at (c : Dev nD) (t : Fin cfg0.N) (r : Fin 256) (k : Fin 1024) :
    iblk m c 0 t (ix2 r k) = m ((c : Thread nD τ).loc main_arg0) (ix3 (seq t r) (pos t r) k) := by
  refine Eq.trans ?_ (entry_rows m c ⟨t.val * 256 + r.val, by have := t.isLt; have : cfg0.N = 256 := rfl; omega⟩ k)
  blk_ext [iblk, idx t]

theorem gain_at (c : Dev nD) (t : Fin cfg0.N) (k : Fin 1024) :
    iblk m c 1 t (ix2 0 k) = m ((c : Thread nD τ).loc main_arg1) (ix1 k) := by
  rw [← entry_gain m c k]
  blk_ext [iblk, idx t]

theorem weight_at (c : Dev nD) (t : Fin cfg0.N) (k : Fin 1024) (j : Fin 5632) :
    iblk m c 2 t (ix2 k j) = m ((c : Thread nD τ).loc main_arg2) (ix2 k (col j)) := by
  refine Eq.trans ?_ (entry_weight m c k j)
  blk_ext [iblk, idx t]

theorem bias_at (c : Dev nD) (t : Fin cfg0.N) (j : Fin 5632) :
    iblk m c 3 t (ix2 0 j) = m ((c : Thread nD τ).loc main_arg3) (ix1 (col j)) := by
  refine Eq.trans ?_ (entry_bias m c j)
  blk_ext [iblk, idx t]

/-- The reference's projection of core `c`'s arguments. -/
abbrev Z (c : Dev nD) : FVec Ideal Cert.ProjRefIdeal.S16x4096x5640 .f32 :=
  full (m ((c : Thread nD τ).loc main_arg0)) (m ((c : Thread nD τ).loc main_arg1)) (m ((c : Thread nD τ).loc main_arg2))
    (m ((c : Thread nD τ).loc main_arg3))

/-- One column of the projection of one row of a block, from the blocks. -/
theorem block_column (c : Dev nD) (t : Fin cfg0.N) (r : Fin 256) (j : Fin 5632) :
    column (fun k => iblk m c 0 t (ix2 r k)) (fun k => iblk m c 1 t (ix2 0 k)) (fun k => iblk m c 2 t (ix2 k j)) (iblk m c 3 t (ix2 0 j))
      = Z m c (ix3 (seq t r) (pos t r) (col j)) := by
  simp only [Z, full_at, rows_at, gain_at, weight_at, bias_at]

end Cert.ProjIdeal.Value

end
-- ==== Proof.ProjAttn.lean ====
/-
  The projection's results for the attention and its caches.
-/
module

public import proofs.«01_k».proof.Proof.ProjValue

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Result 0: the attention queries, scaled. -/
abbrev part8 (z : FVec Ideal Cert.ProjRefIdeal.S16x4096x5640 .f32) : FVec Ideal Cert.ProjRefIdeal.S65536x512 .bf16 :=
  truncf .bf16 (shapeCast Cert.ProjRefIdeal.S65536x512 (mulf (extractStridedSlice Cert.ProjRefIdeal.S16x4096x512 ![0, 0, 0] z Cert.ProjRefIdeal.Gen.slices_S16x4096x5640_S16x4096x512_0_0_0) (broadcastInDim Cert.ProjRefIdeal.S16x4096x512 ![] Cert.ProjRefIdeal.Gen.bcast_S_S16x4096x512 (constant Cert.ProjRefIdeal.S_ .f32 0x3E000000#32))) Cert.ProjRefIdeal.Gen.shapeCasts_S16x4096x512_S65536x512) Cert.ProjRefIdeal.Gen.bitsLt_bf16_f32

theorem final8 (c : Dev nD) : (dats m 0 c).arrAt 8 cfg0.N = part8 (Z m c) := by
  refine (dats m 0 c).arrAt_eq_of_covers 8 _ (by decide +kernel) fun t _ y => ?_
  blk_simp
  rw [after0_8]
  frame_out
  have hz := block_column m c t (y 0) (⟨(y 1).val, by have := (y 1).isLt; have : ((cfg0.win 8).xblock (cfg0.grid.coords t)).size 1 = 512 := rfl; omega⟩ : Fin 5632)
  generalize Z m c = z at hz ⊢
  unfold column at hz
  pointwise [k0_pay3, k0_pay1, k0_pay2, part8]
  rw [hz]
  refine congrArg (fun q => q * Ideal.ofBits .f32 _) ?_

  blk_ext [idx t, seq, pos, col]
  all_goals (split <;> omega)

/-- Result 1: the attention keys. -/
abbrev part9 (z : FVec Ideal Cert.ProjRefIdeal.S16x4096x5640 .f32) : FVec Ideal Cert.ProjRefIdeal.S65536x512 .bf16 :=
  truncf .bf16 (shapeCast Cert.ProjRefIdeal.S65536x512 (extractStridedSlice Cert.ProjRefIdeal.S16x4096x512 ![0, 0, 512] z Cert.ProjRefIdeal.Gen.slices_S16x4096x5640_S16x4096x512_0_0_512) Cert.ProjRefIdeal.Gen.shapeCasts_S16x4096x512_S65536x512) Cert.ProjRefIdeal.Gen.bitsLt_bf16_f32

theorem final9 (c : Dev nD) : (dats m 0 c).arrAt 9 cfg0.N = part9 (Z m c) := by
  refine (dats m 0 c).arrAt_eq_of_covers 9 _ (by decide +kernel) fun t _ y => ?_
  blk_simp
  rw [after0_9]
  frame_out
  have hz := block_column m c t (y 0) (⟨512 + (y 1).val, by have := (y 1).isLt; have : ((cfg0.win 9).xblock (cfg0.grid.coords t)).size 1 = 512 := rfl; omega⟩ : Fin 5632)
  generalize Z m c = z at hz ⊢
  unfold column at hz
  pointwise [k0_pay5, k0_pay17, k0_pay4, k0_pay1, k0_pay2, part9]
  rw [hz]

  blk_ext [idx t, seq, pos, col]
  all_goals (split <;> omega)

/-- Result 2: the attention values. -/
abbrev part10 (z : FVec Ideal Cert.ProjRefIdeal.S16x4096x5640 .f32) : FVec Ideal Cert.ProjRefIdeal.S65536x512 .bf16 :=
  truncf .bf16 (shapeCast Cert.ProjRefIdeal.S65536x512 (extractStridedSlice Cert.ProjRefIdeal.S16x4096x512 ![0, 0, 1024] z Cert.ProjRefIdeal.Gen.slices_S16x4096x5640_S16x4096x512_0_0_1024) Cert.ProjRefIdeal.Gen.shapeCasts_S16x4096x512_S65536x512) Cert.ProjRefIdeal.Gen.bitsLt_bf16_f32

theorem final10 (c : Dev nD) : (dats m 0 c).arrAt 10 cfg0.N = part10 (Z m c) := by
  refine (dats m 0 c).arrAt_eq_of_covers 10 _ (by decide +kernel) fun t _ y => ?_
  blk_simp
  rw [after0_10]
  frame_out
  have hz := block_column m c t (y 0) (⟨1024 + (y 1).val, by have := (y 1).isLt; have : ((cfg0.win 10).xblock (cfg0.grid.coords t)).size 1 = 512 := rfl; omega⟩ : Fin 5632)
  generalize Z m c = z at hz ⊢
  unfold column at hz
  pointwise [k0_pay7, k0_pay6, k0_pay16, k0_pay1, k0_pay2, part10]
  rw [hz]

  blk_ext [idx t, seq, pos, col]
  all_goals (split <;> omega)

/-- Result 3: the keys as the cache keeps them. -/
abbrev part11 (z : FVec Ideal Cert.ProjRefIdeal.S16x4096x5640 .f32) : FVec Ideal Cert.ProjRefIdeal.S65536x512 .f32 :=
  shapeCast Cert.ProjRefIdeal.S65536x512 (extractStridedSlice Cert.ProjRefIdeal.S16x4096x512 ![0, 0, 512] z Cert.ProjRefIdeal.Gen.slices_S16x4096x5640_S16x4096x512_0_0_512) Cert.ProjRefIdeal.Gen.shapeCasts_S16x4096x512_S65536x512

theorem final11 (c : Dev nD) : (dats m 0 c).arrAt 11 cfg0.N = part11 (Z m c) := by
  refine (dats m 0 c).arrAt_eq_of_covers 11 _ (by decide +kernel) fun t _ y => ?_
  blk_simp
  rw [after0_11]
  frame_out
  have hz := block_column m c t (y 0) (⟨512 + (y 1).val, by have := (y 1).isLt; have : ((cfg0.win 11).xblock (cfg0.grid.coords t)).size 1 = 512 := rfl; omega⟩ : Fin 5632)
  generalize Z m c = z at hz ⊢
  unfold column at hz
  pointwise [k0_pay17, k0_pay4, k0_pay1, k0_pay2, part11]
  rw [hz]

  blk_ext [idx t, seq, pos, col]
  all_goals (split <;> omega)

/-- Result 4: the values as the cache keeps them. -/
abbrev part12 (z : FVec Ideal Cert.ProjRefIdeal.S16x4096x5640 .f32) : FVec Ideal Cert.ProjRefIdeal.S65536x512 .f32 :=
  shapeCast Cert.ProjRefIdeal.S65536x512 (extractStridedSlice Cert.ProjRefIdeal.S16x4096x512 ![0, 0, 1024] z Cert.ProjRefIdeal.Gen.slices_S16x4096x5640_S16x4096x512_0_0_1024) Cert.ProjRefIdeal.Gen.shapeCasts_S16x4096x512_S65536x512

theorem final12 (c : Dev nD) : (dats m 0 c).arrAt 12 cfg0.N = part12 (Z m c) := by
  refine (dats m 0 c).arrAt_eq_of_covers 12 _ (by decide +kernel) fun t _ y => ?_
  blk_simp
  rw [after0_12]
  frame_out
  have hz := block_column m c t (y 0) (⟨1024 + (y 1).val, by have := (y 1).isLt; have : ((cfg0.win 12).xblock (cfg0.grid.coords t)).size 1 = 512 := rfl; omega⟩ : Fin 5632)
  generalize Z m c = z at hz ⊢
  unfold column at hz
  pointwise [k0_pay6, k0_pay16, k0_pay1, k0_pay2, part12]
  rw [hz]

  blk_ext [idx t, seq, pos, col]
  all_goals (split <;> omega)

end Cert.ProjIdeal.Value

end
-- ==== Proof.ProjMlstm.lean ====
/-
  The projection's results for the recurrence.
-/
module

public import proofs.«01_k».proof.Proof.ProjValue

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Result 5: the recurrence queries. -/
abbrev part13 (z : FVec Ideal Cert.ProjRefIdeal.S16x4096x5640 .f32) : FVec Ideal Cert.ProjRefIdeal.S65536x512 .bf16 :=
  truncf .bf16 (shapeCast Cert.ProjRefIdeal.S65536x512 (extractStridedSlice Cert.ProjRefIdeal.S16x4096x512 ![0, 0, 1536] z Cert.ProjRefIdeal.Gen.slices_S16x4096x5640_S16x4096x512_0_0_1536) Cert.ProjRefIdeal.Gen.shapeCasts_S16x4096x512_S65536x512) Cert.ProjRefIdeal.Gen.bitsLt_bf16_f32

theorem final13 (c : Dev nD) : (dats m 0 c).arrAt 13 cfg0.N = part13 (Z m c) := by
  refine (dats m 0 c).arrAt_eq_of_covers 13 _ (by decide +kernel) fun t _ y => ?_
  blk_simp
  rw [after0_13]
  frame_out
  have hz := block_column m c t (y 0) (⟨1536 + (y 1).val, by have := (y 1).isLt; have : ((cfg0.win 13).xblock (cfg0.grid.coords t)).size 1 = 512 := rfl; omega⟩ : Fin 5632)
  generalize Z m c = z at hz ⊢
  unfold column at hz
  pointwise [k0_pay8, k0_pay16, k0_pay1, k0_pay2, part13]
  rw [hz]

  blk_ext [idx t, seq, pos, col]
  all_goals (split <;> omega)

/-- Result 6: the recurrence keys, scaled. -/
abbrev part14 (z : FVec Ideal Cert.ProjRefIdeal.S16x4096x5640 .f32) : FVec Ideal Cert.ProjRefIdeal.S65536x512 .bf16 :=
  truncf .bf16 (shapeCast Cert.ProjRefIdeal.S65536x512 (mulf (extractStridedSlice Cert.ProjRefIdeal.S16x4096x512 ![0, 0, 2048] z Cert.ProjRefIdeal.Gen.slices_S16x4096x5640_S16x4096x512_0_0_2048) (broadcastInDim Cert.ProjRefIdeal.S16x4096x512 ![] Cert.ProjRefIdeal.Gen.bcast_S_S16x4096x512 (constant Cert.ProjRefIdeal.S_ .f32 0x3DB504F3#32))) Cert.ProjRefIdeal.Gen.shapeCasts_S16x4096x512_S65536x512) Cert.ProjRefIdeal.Gen.bitsLt_bf16_f32

theorem final14 (c : Dev nD) : (dats m 0 c).arrAt 14 cfg0.N = part14 (Z m c) := by
  refine (dats m 0 c).arrAt_eq_of_covers 14 _ (by decide +kernel) fun t _ y => ?_
  blk_simp
  rw [after0_14]
  frame_out
  have hz := block_column m c t (y 0) (⟨2048 + (y 1).val, by have := (y 1).isLt; have : ((cfg0.win 14).xblock (cfg0.grid.coords t)).size 1 = 512 := rfl; omega⟩ : Fin 5632)
  generalize Z m c = z at hz ⊢
  unfold column at hz
  pointwise [k0_pay9, k0_pay16, k0_pay1, k0_pay2, part14]
  rw [hz]
  refine congrArg (fun q => q * Ideal.ofBits .f32 _) ?_

  blk_ext [idx t, seq, pos, col]
  all_goals (split <;> omega)

/-- Result 7: the recurrence values. -/
abbrev part15 (z : FVec Ideal Cert.ProjRefIdeal.S16x4096x5640 .f32) : FVec Ideal Cert.ProjRefIdeal.S65536x512 .bf16 :=
  truncf .bf16 (shapeCast Cert.ProjRefIdeal.S65536x512 (extractStridedSlice Cert.ProjRefIdeal.S16x4096x512 ![0, 0, 2560] z Cert.ProjRefIdeal.Gen.slices_S16x4096x5640_S16x4096x512_0_0_2560) Cert.ProjRefIdeal.Gen.shapeCasts_S16x4096x512_S65536x512) Cert.ProjRefIdeal.Gen.bitsLt_bf16_f32

theorem final15 (c : Dev nD) : (dats m 0 c).arrAt 15 cfg0.N = part15 (Z m c) := by
  refine (dats m 0 c).arrAt_eq_of_covers 15 _ (by decide +kernel) fun t _ y => ?_
  blk_simp
  rw [after0_15]
  frame_out
  have hz := block_column m c t (y 0) (⟨2560 + (y 1).val, by have := (y 1).isLt; have : ((cfg0.win 15).xblock (cfg0.grid.coords t)).size 1 = 512 := rfl; omega⟩ : Fin 5632)
  generalize Z m c = z at hz ⊢
  unfold column at hz
  pointwise [k0_pay10, k0_pay16, k0_pay1, k0_pay2, part15]
  rw [hz]

  blk_ext [idx t, seq, pos, col]
  all_goals (split <;> omega)

end Cert.ProjIdeal.Value

end
-- ==== Proof.ProjMerge.lean ====
/-
  The projection's gates.
-/
module

public import proofs.«01_k».proof.Proof.ProjValue

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Result 8: the recurrence output gates. -/
abbrev part16 (z : FVec Ideal Cert.ProjRefIdeal.S16x4096x5640 .f32) : FVec Ideal Cert.ProjRefIdeal.S65536x512 .f32 :=
  shapeCast Cert.ProjRefIdeal.S65536x512 (extractStridedSlice Cert.ProjRefIdeal.S16x4096x512 ![0, 0, 3072] z Cert.ProjRefIdeal.Gen.slices_S16x4096x5640_S16x4096x512_0_0_3072) Cert.ProjRefIdeal.Gen.shapeCasts_S16x4096x512_S65536x512

theorem final16 (c : Dev nD) : (dats m 0 c).arrAt 16 cfg0.N = part16 (Z m c) := by
  refine (dats m 0 c).arrAt_eq_of_covers 16 _ (by decide +kernel) fun t _ y => ?_
  blk_simp
  rw [after0_16]
  frame_out
  have hz := block_column m c t (y 0) (⟨3072 + (y 1).val, by have := (y 1).isLt; have : ((cfg0.win 16).xblock (cfg0.grid.coords t)).size 1 = 512 := rfl; omega⟩ : Fin 5632)
  generalize Z m c = z at hz ⊢
  unfold column at hz
  pointwise [k0_pay11, k0_pay16, k0_pay1, k0_pay2, part16]
  rw [hz]

  blk_ext [idx t, seq, pos, col]
  all_goals (split <;> omega)

/-- Result 9: the first merge gate. -/
abbrev part17 (z : FVec Ideal Cert.ProjRefIdeal.S16x4096x5640 .f32) : FVec Ideal Cert.ProjRefIdeal.S65536x1024 .f32 :=
  shapeCast Cert.ProjRefIdeal.S65536x1024 (extractStridedSlice Cert.ProjRefIdeal.S16x4096x1024 ![0, 0, 3592] z Cert.ProjRefIdeal.Gen.slices_S16x4096x5640_S16x4096x1024_0_0_3592) Cert.ProjRefIdeal.Gen.shapeCasts_S16x4096x1024_S65536x1024

theorem final17 (c : Dev nD) : (dats m 0 c).arrAt 17 cfg0.N = part17 (Z m c) := by
  refine (dats m 0 c).arrAt_eq_of_covers 17 _ (by decide +kernel) fun t _ y => ?_
  blk_simp
  rw [after0_17]
  frame_out
  have hz := block_column m c t (y 0) (⟨3584 + (y 1).val, by have := (y 1).isLt; have : ((cfg0.win 17).xblock (cfg0.grid.coords t)).size 1 = 1024 := rfl; omega⟩ : Fin 5632)
  generalize Z m c = z at hz ⊢
  unfold column at hz
  pointwise [k0_pay12, k0_pay16, k0_pay1, k0_pay2, part17]
  rw [hz]

  blk_ext [idx t, seq, pos, col]
  all_goals (split <;> omega)

/-- Result 10: the second merge gate. -/
abbrev part18 (z : FVec Ideal Cert.ProjRefIdeal.S16x4096x5640 .f32) : FVec Ideal Cert.ProjRefIdeal.S65536x1024 .f32 :=
  shapeCast Cert.ProjRefIdeal.S65536x1024 (extractStridedSlice Cert.ProjRefIdeal.S16x4096x1024 ![0, 0, 4616] z Cert.ProjRefIdeal.Gen.slices_S16x4096x5640_S16x4096x1024_0_0_4616) Cert.ProjRefIdeal.Gen.shapeCasts_S16x4096x1024_S65536x1024

theorem final18 (c : Dev nD) : (dats m 0 c).arrAt 18 cfg0.N = part18 (Z m c) := by
  refine (dats m 0 c).arrAt_eq_of_covers 18 _ (by decide +kernel) fun t _ y => ?_
  blk_simp
  rw [after0_18]
  frame_out
  have hz := block_column m c t (y 0) (⟨4608 + (y 1).val, by have := (y 1).isLt; have : ((cfg0.win 18).xblock (cfg0.grid.coords t)).size 1 = 1024 := rfl; omega⟩ : Fin 5632)
  generalize Z m c = z at hz ⊢
  unfold column at hz
  pointwise [k0_pay14, k0_pay13, k0_pay16, k0_pay1, k0_pay2, part18]
  rw [hz]

  blk_ext [idx t, seq, pos, col]
  all_goals (split <;> omega)

end Cert.ProjIdeal.Value

end
-- ==== Proof.ProjTie.lean ====
/-
  The projection's claim: the kernel's eleven results are the reference's.
-/
module

public import proofs.«01_k».proof.Defs
public import proofs.«01_k».proof.Proof.ProjAttn
public import proofs.«01_k».proof.Proof.ProjMlstm
public import proofs.«01_k».proof.Proof.ProjMerge

@[expose] public section

set_option maxRecDepth 16384

noncomputable section

namespace Cert.Proof

open Idealize.ShloMosaic Idealize.SL.Sem

set_option maxHeartbeats 4000000 in
/-- From the same arrays the projection kernel and the reference end with the same eleven arrays. -/
theorem proj_same : Cert.algebraic_ProjIdeal_ProjRefIdeal (hProjIdeal := Cert.ProjIdeal.Gen.facts)
    (hProjRefIdeal := Cert.ProjRefIdeal.Gen.facts) := by
  pair_intro
  · run_from Cert.ProjIdeal.Value.run_blocks m g
  · run_from Cert.ProjRefIdeal.Value.run m' g'
    · exact (Cert.ProjIdeal.Value.final8 m c).symm
    · exact (Cert.ProjIdeal.Value.final9 m c).symm
    · exact (Cert.ProjIdeal.Value.final10 m c).symm
    · exact (Cert.ProjIdeal.Value.final11 m c).symm
    · exact (Cert.ProjIdeal.Value.final12 m c).symm
    · exact (Cert.ProjIdeal.Value.final13 m c).symm
    · exact (Cert.ProjIdeal.Value.final14 m c).symm
    · exact (Cert.ProjIdeal.Value.final15 m c).symm
    · exact (Cert.ProjIdeal.Value.final16 m c).symm
    · exact (Cert.ProjIdeal.Value.final17 m c).symm
    · exact (Cert.ProjIdeal.Value.final18 m c).symm

end Cert.Proof

end
-- ==== Proof.MergeValue.lean ====
/-
  The merge of the two branches: one block of 256 token rows per grid point.  The result array after the run is the
  reference's whole-array formula, element by element.
-/
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a function of its nine arrays. -/
abbrev merged (x : FVec Ideal S65536x1024 .f32) (att : FVec Ideal S65536x512 .bf16) (h mo : FVec Ideal S65536x512 .f32)
    (ga gb : FVec Ideal S65536x1024 .f32) (wa wm : FVec Ideal S512x1024 .f32) (wo : FVec Ideal S1024x1024 .f32) :
    FVec Ideal S65536x1024 .f32 :=
  addf x (Host.dotGeneral Cert.MergeRefIdeal.dot_S65536x1024_S1024x1024_S65536x1024_1_0_0_1_n_n none
    (addf
      (mulf (Host.divf (broadcastInDim S65536x1024 ![] Cert.MergeRefIdeal.Gen.bcast_S_S65536x1024 (constant Cert.MergeRefIdeal.S_ .f32 0x3F800000#32))
          (addf (broadcastInDim S65536x1024 ![] Cert.MergeRefIdeal.Gen.bcast_S_S65536x1024 (constant Cert.MergeRefIdeal.S_ .f32 0x3F800000#32)) (Host.exp (Host.negf ga))))
        (Host.dotGeneral Cert.MergeRefIdeal.dot_S65536x512_S512x1024_S65536x1024_1_0_0_1_n_n none (extf .f32 att Cert.MergeRefIdeal.Gen.bitsLt_bf16_f32) wa))
      (mulf (Host.divf (broadcastInDim S65536x1024 ![] Cert.MergeRefIdeal.Gen.bcast_S_S65536x1024 (constant Cert.MergeRefIdeal.S_ .f32 0x3F800000#32))
          (addf (broadcastInDim S65536x1024 ![] Cert.MergeRefIdeal.Gen.bcast_S_S65536x1024 (constant Cert.MergeRefIdeal.S_ .f32 0x3F800000#32)) (Host.exp (Host.negf gb))))
        (Host.dotGeneral Cert.MergeRefIdeal.dot_S65536x512_S512x1024_S65536x1024_1_0_0_1_n_n none
          (mulf (Host.divf (broadcastInDim S65536x512 ![] Cert.MergeRefIdeal.Gen.bcast_S_S65536x512 (constant Cert.MergeRefIdeal.S_ .f32 0x3F800000#32))
              (addf (broadcastInDim S65536x512 ![] Cert.MergeRefIdeal.Gen.bcast_S_S65536x512 (constant Cert.MergeRefIdeal.S_ .f32 0x3F800000#32)) (Host.exp (Host.negf mo)))) h)
          wm)))
    wo)

/-- Where each window's block sits: the row windows at block row `t`, the three weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] :=
  (by decide +kernel : ∀ t : Fin grid0.N, _)

/-- What grid point `t` stores at position `y` of its block is the formula at the place that position has in the array. -/
theorem point (c : Dev nD) (t : Fin cfg0.N) (y : S256x1024.Idx) :
    k0_pay1 (iblk m c 3 t) (iblk m c 2 t) (iblk m c 1 t) (iblk m c 6 t) (iblk m c 7 t) (iblk m c 4 t) (iblk m c 5 t) (iblk m c 0 t) (iblk m c 8 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (((cfg0.win 9).blk t).view.emb y) := by
  pointwise [k0_pay1, merged, Ideal.logistic]
  blk_point [iblk, V, idx t]

/-- The result array after the run is the reference's formula of the arguments. -/
theorem final (c : Dev nD) : (dats m 0 c).arrAt 9 cfg0.N
    = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  frame_out
  exact point m c t y

end Cert.MergeIdeal.Value

end
-- ==== Proof.MergeTie.lean ====
/-
  The merge: kernel and reference end with the same array.
-/
module

public import proofs.«01_k».proof.Defs
public import proofs.«01_k».proof.Proof.MergeValue

@[expose] public section

noncomputable section

namespace Cert.Proof

open Idealize.ShloMosaic Idealize.SL.Sem

/-- From the same nine arrays the merge kernel and the reference end with the same array. -/
theorem merge_same : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · run_from Cert.MergeRefIdeal.Value.run m' g'
    exact (Cert.MergeIdeal.Value.final m c).symm

end Cert.Proof

end
-- ==== Proof.lean ====
/-
  The claim: the frames, the preservation and the value claims of each pair of programs.
-/
module

public import proofs.«01_k».proof.Proof.Gen.AttnIdeal.Value
public import proofs.«01_k».proof.Proof.Gen.AttnRefIdeal.Run
public import proofs.«01_k».proof.Proof.Gen.Attn.Frame
public import proofs.«01_k».proof.Proof.Gen.AttnIdeal.Frame
public import proofs.«01_k».proof.Proof.AttnTie
public import proofs.«01_k».proof.Proof.Gen.ProjIdeal.Value
public import proofs.«01_k».proof.Proof.Gen.MergeIdeal.Value
public import proofs.«01_k».proof.Proof.Gen.ProjRefIdeal.Run
public import proofs.«01_k».proof.Proof.Gen.MergeRefIdeal.Run
public import proofs.«01_k».proof.Proof.Gen.Proj.Frame
public import proofs.«01_k».proof.Proof.Gen.ProjIdeal.Frame
public import proofs.«01_k».proof.Proof.Gen.Merge.Frame
public import proofs.«01_k».proof.Proof.Gen.MergeIdeal.Frame
public import proofs.«01_k».proof.Proof.ProjTie
public import proofs.«01_k».proof.Proof.MergeTie
public import proofs.«01_k».proof.Defs
public import Idealize.ShloMosaic.Adequacy
public import Idealize.ShloMosaic.Init

@[expose] public section

noncomputable section

namespace Cert.Proof

open Idealize.ShloMosaic Idealize.SL.Sem

/-- The reference AttnRefIdeal leaves its arguments alone and has no semaphore. -/
theorem frame_attnRef : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The reference ProjRefIdeal leaves its arguments alone and has no semaphore. -/
theorem frame_projRef : Cert.quiescent_ProjRefIdeal (hProjRefIdeal := Cert.ProjRefIdeal.Gen.facts) := fun m ρ _ =>
  (θ_run Cert.ProjRefIdeal.defs _ _).mono (fun r h => ⟨fun c => (h c).2.2.2.2.2.2.2.2.2.2.2, sem_eq_zero_of_no_sems (by decide) r.2⟩)
    (Cert.ProjRefIdeal.Value.run (F := Ideal) m ρ)

/-- The reference MergeRefIdeal leaves its arguments alone and has no semaphore. -/
theorem frame_mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem claim : Cert.Claim :=
  ⟨Cert.Attn.Gen.facts, Cert.AttnIdeal.Gen.facts, Cert.AttnRefIdeal.Gen.facts, Cert.Proj.Gen.facts, Cert.ProjIdeal.Gen.facts,
    Cert.ProjRefIdeal.Gen.facts, Cert.Merge.Gen.facts, Cert.MergeIdeal.Gen.facts, Cert.MergeRefIdeal.Gen.facts,
    Cert.Pre_finite_scores.Gen.facts,
    fun m ρ _ => Cert.Attn.Gen.frame m ρ,
    fun m ρ _ => Cert.AttnIdeal.Gen.frame m ρ,
    fun m ρ _ => Cert.AttnIdeal.Gen.frame m ρ,
    frame_attnRef,
    fun m ρ _ => frame_attnRef m ρ trivial,
    fun m ρ _ => Cert.Proj.Gen.frame m ρ,
    fun m ρ _ => Cert.ProjIdeal.Gen.frame m ρ,
    frame_projRef,
    fun m ρ _ => Cert.Merge.Gen.frame m ρ,
    fun m ρ _ => Cert.MergeIdeal.Gen.frame m ρ,
    frame_mergeRef,
    IdealRules.named_const.statement _ _ _ _ _ rfl,
    attn_same, trivial, proj_same, trivial, merge_same⟩

end Cert.Proof

end
